-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_d_model" .f32 0x394CCCCD#32 ((1 / 5120 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v15)) (v3 : (c : Dev Cert.KernelIdeal.nD) → Buf (Elt Ideal) ((c.tc : Thread Cert.KernelIdeal.nD Cert.KernelIdeal.τ).loc Cert.KernelIdeal.main_v16)) (v4 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_v16) = v3 c
          ∧ r.2.mem ((c.tc : Thread Cert.KernelIdeal.nD Cert.KernelIdeal.τ).loc Cert.KernelIdeal.main_v17) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_v14) = v2 c
          ∧ r.2.mem ((c.tc : Thread Cert.ReferenceIdeal.nD Cert.ReferenceIdeal.τ).loc Cert.ReferenceIdeal.main_v15) = v3 c
          ∧ r.2.mem ((c.tc : Thread Cert.ReferenceIdeal.nD Cert.ReferenceIdeal.τ).loc Cert.ReferenceIdeal.main_v16) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x5120 : Shape := ⟨3, ![4, 8192, 5120]⟩
abbrev S5120 : Shape := ⟨1, ![5120]⟩
abbrev S5120x896 : Shape := ⟨2, ![5120, 896]⟩
abbrev S896 : Shape := ⟨1, ![896]⟩
abbrev S4x8192 : Shape := ⟨2, ![4, 8192]⟩
abbrev S64 : Shape := ⟨1, ![64]⟩
abbrev S_ : Shape := ⟨0, ![]⟩
abbrev S128 : Shape := ⟨1, ![128]⟩
abbrev S1x128 : Shape := ⟨2, ![1, 128]⟩
abbrev S32768x5120 : Shape := ⟨2, ![32768, 5120]⟩
abbrev S1x5120 : Shape := ⟨2, ![1, 5120]⟩
abbrev S1x896 : Shape := ⟨2, ![1, 896]⟩
abbrev S32768x1 : Shape := ⟨2, ![32768, 1]⟩
abbrev S4x5x8192x128 : Shape := ⟨4, ![4, 5, 8192, 128]⟩
abbrev S32768x128 : Shape := ⟨2, ![32768, 128]⟩
abbrev S256x5120 : Shape := ⟨2, ![256, 5120]⟩
abbrev S256x1 : Shape := ⟨2, ![256, 1]⟩
abbrev S1x5x256x128 : Shape := ⟨4, ![1, 5, 256, 128]⟩
abbrev S256x128 : Shape := ⟨2, ![256, 128]⟩
abbrev S256 : Shape := ⟨1, ![256]⟩
abbrev S256x252 : Shape := ⟨2, ![256, 252]⟩
abbrev S256x896 : Shape := ⟨2, ![256, 896]⟩
abbrev S1x1x256x128 : Shape := ⟨4, ![1, 1, 256, 128]⟩
abbrev S4x8192x5x128 : Shape := ⟨4, ![4, 8192, 5, 128]⟩
abbrev S4x8192x1x128 : Shape := ⟨4, ![4, 8192, 1, 128]⟩
abbrev S4x8192x1 : Shape := ⟨3, ![4, 8192, 1]⟩

abbrev nBuf : Space → Nat
  | .hbm => 29
  | .vmem => 18
  | .smem => 0
  | _ => 0

abbrev bufTy : (tb : Table) → Fin (tcTables nBuf tb) → BufTy
  | .hbm, ⟨0, _⟩ => ⟨S4x8192x5120, .bf16⟩
  | .hbm, ⟨1, _⟩ => ⟨S5120, .f32⟩
  | .hbm, ⟨2, _⟩ => ⟨S5120x896, .fp8e4m3⟩
  | .hbm, ⟨3, _⟩ => ⟨S896, .f32⟩
  | .hbm, ⟨4, _⟩ => ⟨S4x8192, .i32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S128, .f32⟩
  | .hbm, ⟨14, _⟩ => ⟨S1x128, .f32⟩
  | .hbm, ⟨15, _⟩ => ⟨S32768x5120, .bf16⟩
  | .hbm, ⟨16, _⟩ => ⟨S1x5120, .f32⟩
  | .hbm, ⟨17, _⟩ => ⟨S1x896, .f32⟩
  | .hbm, ⟨18, _⟩ => ⟨S32768x1, .i32⟩
  | .hbm, ⟨19, _⟩ => ⟨S4x5x8192x128, .bf16⟩
  | .hbm, ⟨20, _⟩ => ⟨S32768x128, .bf16⟩
  | .hbm, ⟨21, _⟩ => ⟨S32768x128, .bf16⟩
  | .hbm, ⟨22, _⟩ => ⟨S32768x5120, .fp8e4m3⟩
  | .hbm, ⟨23, _⟩ => ⟨S32768x1, .f32⟩
  | .hbm, ⟨24, _⟩ => ⟨S4x8192x5x128, .bf16⟩
  | .hbm, ⟨25, _⟩ => ⟨S4x8192x1x128, .bf16⟩
  | .hbm, ⟨26, _⟩ => ⟨S4x8192x1x128, .bf16⟩
  | .hbm, ⟨27, _⟩ => ⟨S4x8192x5120, .fp8e4m3⟩
  | .hbm, ⟨28, _⟩ => ⟨S4x8192x1, .f32⟩
  | .local _ .vmem, ⟨0, _⟩ => ⟨S256x5120, .bf16⟩
  | .local _ .vmem, ⟨1, _⟩ => ⟨S256x5120, .bf16⟩
  | .local _ .vmem, ⟨2, _⟩ => ⟨S1x5120, .f32⟩
  | .local _ .vmem, ⟨3, _⟩ => ⟨S5120x896, .fp8e4m3⟩
  | .local _ .vmem, ⟨4, _⟩ => ⟨S1x896, .f32⟩
  | .local _ .vmem, ⟨5, _⟩ => ⟨S256x1, .i32⟩
  | .local _ .vmem, ⟨6, _⟩ => ⟨S256x1, .i32⟩
  | .local _ .vmem, ⟨7, _⟩ => ⟨S1x128, .f32⟩
  | .local _ .vmem, ⟨8, _⟩ => ⟨S1x5x256x128, .bf16⟩
  | .local _ .vmem, ⟨9, _⟩ => ⟨S1x5x256x128, .bf16⟩
  | .local _ .vmem, ⟨10, _⟩ => ⟨S256x128, .bf16⟩
  | .local _ .vmem, ⟨11, _⟩ => ⟨S256x128, .bf16⟩
  | .local _ .vmem, ⟨12, _⟩ => ⟨S256x128, .bf16⟩
  | .local _ .vmem, ⟨13, _⟩ => ⟨S256x128, .bf16⟩
  | .local _ .vmem, ⟨14, _⟩ => ⟨S256x5120, .fp8e4m3⟩
  | .local _ .vmem, ⟨15, _⟩ => ⟨S256x5120, .fp8e4m3⟩
  | .local _ .vmem, ⟨16, _⟩ => ⟨S256x1, .f32⟩
  | .local _ .vmem, ⟨17, _⟩ => ⟨S256x1, .f32⟩
  | _, _ => ⟨S4x8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev main_v12_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5120x896 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x896 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x5x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5120 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "inv_d_model" => some ((1 / 5120 : ℝ) : EReal)
  | _ => none
-- ==== ReferenceIdeal.lean ====
abbrev S4x8192x5120 : Shape := ⟨3, ![4, 8192, 5120]⟩
abbrev S5120 : Shape := ⟨1, ![5120]⟩
abbrev S5120x896 : Shape := ⟨2, ![5120, 896]⟩
abbrev S896 : Shape := ⟨1, ![896]⟩
abbrev S4x8192 : Shape := ⟨2, ![4, 8192]⟩
abbrev S64 : Shape := ⟨1, ![64]⟩
abbrev S_ : Shape := ⟨0, ![]⟩
abbrev S32768x5120 : Shape := ⟨2, ![32768, 5120]⟩
abbrev S1x5120 : Shape := ⟨2, ![1, 5120]⟩
abbrev S1x896 : Shape := ⟨2, ![1, 896]⟩
abbrev S32768x1 : Shape := ⟨2, ![32768, 1]⟩
abbrev S1x64 : Shape := ⟨2, ![1, 64]⟩
abbrev S32768x5x128 : Shape := ⟨3, ![32768, 5, 128]⟩
abbrev S32768x128 : Shape := ⟨2, ![32768, 128]⟩
abbrev S32768 : Shape := ⟨1, ![32768]⟩
abbrev S32768x896 : Shape := ⟨2, ![32768, 896]⟩
abbrev S32768x640 : Shape := ⟨2, ![32768, 640]⟩
abbrev S32768x64 : Shape := ⟨2, ![32768, 64]⟩
abbrev S32768x1x64 : Shape := ⟨3, ![32768, 1, 64]⟩
abbrev S32768x5x64 : Shape := ⟨3, ![32768, 5, 64]⟩
abbrev S4x8192x5x128 : Shape := ⟨4, ![4, 8192, 5, 128]⟩
abbrev S4x8192x1x128 : Shape := ⟨4, ![4, 8192, 1, 128]⟩
abbrev S4x8192x1 : Shape := ⟨3, ![4, 8192, 1]⟩

abbrev nBuf : Space → Nat
  | .hbm => 28
  | .vmem => 11
  | .smem => 0
  | _ => 0

abbrev bufTy : (tb : Table) → Fin (tcTables nBuf tb) → BufTy
  | .hbm, ⟨0, _⟩ => ⟨S4x8192x5120, .bf16⟩
  | .hbm, ⟨1, _⟩ => ⟨S5120, .f32⟩
  | .hbm, ⟨2, _⟩ => ⟨S5120x896, .fp8e4m3⟩
  | .hbm, ⟨3, _⟩ => ⟨S896, .f32⟩
  | .hbm, ⟨4, _⟩ => ⟨S4x8192, .i32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S32768x5120, .bf16⟩
  | .hbm, ⟨14, _⟩ => ⟨S1x5120, .f32⟩
  | .hbm, ⟨15, _⟩ => ⟨S1x896, .f32⟩
  | .hbm, ⟨16, _⟩ => ⟨S32768x1, .i32⟩
  | .hbm, ⟨17, _⟩ => ⟨S1x64, .f32⟩
  | .hbm, ⟨18, _⟩ => ⟨S32768x5x128, .bf16⟩
  | .hbm, ⟨19, _⟩ => ⟨S32768x128, .bf16⟩
  | .hbm, ⟨20, _⟩ => ⟨S32768x128, .bf16⟩
  | .hbm, ⟨21, _⟩ => ⟨S32768x5120, .fp8e4m3⟩
  | .hbm, ⟨22, _⟩ => ⟨S32768x1, .f32⟩
  | .hbm, ⟨23, _⟩ => ⟨S4x8192x5x128, .bf16⟩
  | .hbm, ⟨24, _⟩ => ⟨S4x8192x1x128, .bf16⟩
  | .hbm, ⟨25, _⟩ => ⟨S4x8192x1x128, .bf16⟩
  | .hbm, ⟨26, _⟩ => ⟨S4x8192x5120, .fp8e4m3⟩
  | .hbm, ⟨27, _⟩ => ⟨S4x8192x1, .f32⟩
  | .local _ .vmem, ⟨0, _⟩ => ⟨S32768x5120, .bf16⟩
  | .local _ .vmem, ⟨1, _⟩ => ⟨S1x5120, .f32⟩
  | .local _ .vmem, ⟨2, _⟩ => ⟨S5120x896, .fp8e4m3⟩
  | .local _ .vmem, ⟨3, _⟩ => ⟨S1x896, .f32⟩
  | .local _ .vmem, ⟨4, _⟩ => ⟨S32768x1, .i32⟩
  | .local _ .vmem, ⟨5, _⟩ => ⟨S1x64, .f32⟩
  | .local _ .vmem, ⟨6, _⟩ => ⟨S32768x5x128, .bf16⟩
  | .local _ .vmem, ⟨7, _⟩ => ⟨S32768x128, .bf16⟩
  | .local _ .vmem, ⟨8, _⟩ => ⟨S32768x128, .bf16⟩
  | .local _ .vmem, ⟨9, _⟩ => ⟨S32768x5120, .fp8e4m3⟩
  | .local _ .vmem, ⟨10, _⟩ => ⟨S32768x1, .f32⟩
  | _, _ => ⟨S4x8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F] [Named F]

def κ : String → Option EReal := fun
  | "log_two" => some ((Real.log 2 : ℝ) : EReal)
  | _ => none

abbrev grid0 : Pipeline.Grid := .none

abbrev stage0_0 : Fin 1 → Memref sig .tc .vmem S32768x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x896 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x896 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32768x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32768x5x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32768x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32768x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32768x5120 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32768x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Scale.lean ====
/- Powers of two as extended reals, and the power of two that scales a row: the integer
   exponent the two programs choose from a row's largest absolute value, as one definition,
   and both programs' ways of computing it. -/
module

public import Idealize.ShloMosaic.Lib.Pipeline.ValueKit
public import Mathlib.Analysis.SpecialFunctions.Log.Basic

@[expose] public section

set_option maxRecDepth 16384

noncomputable section

open Idealize.ShloMosaic

namespace Cert.Scale

/-- `2 ^ e` as an extended real. -/
def pow2 (e : ℤ) : EReal := (((2 : ℝ) ^ e : ℝ) : EReal)

/-- A pattern with sign and fraction zero and exponent field `n`, read as a number. -/
theorem ieee_exponent (b : BitVec 32) (n : ℕ) (h1 : 1 ≤ n) (h2 : n ≤ 254) (hneg : (b.extractLsb' 31 1 == 1#1) = false)
    (hex : (b.extractLsb' 23 8).toNat = n) (hfr : (b.extractLsb' 0 23).toNat = 0) :
    Ideal.ofBits .f32 b = pow2 ((n : ℤ) - 127) := by
  have hp : ((2 ^ 23 + 0 : ℕ) : ℝ) * (2 : ℝ) ^ ((n : ℤ) - (2 ^ (8 - 1) - 1) - 23) = (2 : ℝ) ^ ((n : ℤ) - 127) := by
    rw [show ((2 ^ 23 + 0 : ℕ) : ℝ) = (2 : ℝ) ^ (23 : ℤ) by norm_num, ← zpow_add₀ (by norm_num)]
    congr 1
    norm_num
  have e1 : n ≠ 2 ^ 8 - 1 := by omega
  have e2 : n ≠ 0 := by omega
  rw [pow2, ← hp]
  unfold Ideal.ofBits Ideal.ieee
  simp only [show (8 + 23 : ℕ) = 31 from rfl, hneg, hex, hfr, if_neg e1, if_neg e2]
  simp

/-- The single-precision pattern whose exponent field is `n` and whose fraction is zero denotes `2 ^ (n - 127)`. -/
theorem ofBits_exponent (n : ℕ) (h1 : 1 ≤ n) (h2 : n ≤ 254) :
    Ideal.ofBits .f32 (BitVec.ofNat 32 n <<< 23) = pow2 ((n : ℤ) - 127) := by
  have hneg : ((BitVec.ofNat 32 n <<< 23).extractLsb' 31 1 == 1#1) = false := by
    rw [beq_eq_false_iff_ne, ne_eq, ← BitVec.toNat_inj]
    simp [BitVec.extractLsb'_toNat, BitVec.toNat_shiftLeft, Nat.shiftLeft_eq, Nat.shiftRight_eq_div_pow]
    omega
  have hex : ((BitVec.ofNat 32 n <<< 23).extractLsb' 23 8).toNat = n := by
    simp [BitVec.extractLsb'_toNat, BitVec.toNat_shiftLeft, Nat.shiftLeft_eq, Nat.shiftRight_eq_div_pow]
    omega
  have hfr : ((BitVec.ofNat 32 n <<< 23).extractLsb' 0 23).toNat = 0 := by
    simp [BitVec.extractLsb'_toNat, BitVec.toNat_shiftLeft, Nat.shiftLeft_eq, Nat.shiftRight_eq_div_pow]
  exact ieee_exponent _ n h1 h2 hneg hex hfr

/-- The word shifted into the exponent field, as the programs write it: bias added, then 23 places left. -/
theorem ofBits_shifted (e : ℤ) (h1 : -126 ≤ e) (h2 : e ≤ 127) :
    Ideal.ofBits .f32 (IntOp.shli .vector (IntOp.addi (BitVec.ofInt 32 e) 127#32) 23#32) = pow2 e := by
  have hw : IntOp.addi (BitVec.ofInt 32 e) 127#32 = BitVec.ofNat 32 (e + 127).toNat := by
    obtain ⟨n, rfl⟩ : ∃ n : ℕ, e = (n : ℤ) - 127 := ⟨(e + 127).toNat, by omega⟩
    show BitVec.ofInt 32 _ + 127#32 = _
    rw [show (127#32 : BitVec 32) = BitVec.ofInt 32 127 from rfl, ← BitVec.ofInt_add, sub_add_cancel,
      BitVec.ofInt_natCast, Int.toNat_natCast]
  rw [hw]
  have hs : IntOp.shli .vector (BitVec.ofNat 32 (e + 127).toNat) 23#32 = BitVec.ofNat 32 (e + 127).toNat <<< 23 := by
    rfl
  rw [hs, ofBits_exponent _ (by omega) (by omega)]
  congr 1
  omega

/-- The exponent of the power of two that scales a row whose largest absolute value is `a`: with
    `m` the value `a / 448` as the programs compute it, one more than the whole part of `log₂ m`, kept between
    -126 and 126; zero where `a` is zero or `m` is not a positive finite number. -/
def scaleExp (a : EReal) : ℤ :=
  if a = 0 then 0
  else if 0 < a * Ideal.ofBits .f32 991054117#32 ∧ a * Ideal.ofBits .f32 991054117#32 < ⊤ then
    max (-126) (min 126 (⌊Real.log (a * Ideal.ofBits .f32 991054117#32).toReal / Real.log 2⌋ + 1))
  else 0

theorem scaleExp_ge (a : EReal) : -126 ≤ scaleExp a := by
  unfold scaleExp; split_ifs <;> omega

theorem scaleExp_le (a : EReal) : scaleExp a ≤ 126 := by
  unfold scaleExp; split_ifs <;> omega

/-- How many of the powers `2 ^ -126, …, 2 ^ 125` a positive real `r` reaches. -/
theorem card_powers (L : ℤ) :
    ((Finset.univ.filter fun k : Fin 252 => (k : ℤ) - 126 ≤ L).card : ℤ) = max (-126) (min 126 (L + 1)) + 126 := by
  have h : (Finset.univ.filter fun k : Fin 252 => (k : ℤ) - 126 ≤ L)
      = Finset.univ.filter fun k : Fin 252 => (k : ℕ) < (L + 127).toNat := by
    ext k; simp only [Finset.mem_filter, Finset.mem_univ, true_and]; omega
  rw [h, Fin.card_filter_val_lt]
  omega

/-- Summing ones over the indices that satisfy `p`, as 32-bit words, counts them. -/
theorem fold_count {n : ℕ} (p : Fin n → Prop) [DecidablePred p] :
    Finset.univ.fold IntOp.addi (0#32) (fun k => BitVec.setWidth 32 (BitVec.ofBool (decide (p k))))
      = BitVec.ofNat 32 (Finset.univ.filter p).card := by
  classical
  have h : ∀ s : Finset (Fin n), s.fold IntOp.addi (0#32) (fun k => BitVec.setWidth 32 (BitVec.ofBool (decide (p k))))
      = BitVec.ofNat 32 (s.filter p).card := by
    intro s
    induction s using Finset.induction_on with
    | empty => rfl
    | insert a s ha ih =>
      rw [Finset.fold_insert ha, ih, Finset.filter_insert]
      by_cases hp : p a
      · rw [if_pos hp, Finset.card_insert_of_notMem (by simp [ha])]
        simp only [hp, decide_true]
        show (1#32 : BitVec 32) + _ = _
        rw [Nat.add_comm, ← BitVec.ofNat_add]
      · rw [if_neg hp]
        simp only [hp, decide_false]
        show (0#32 : BitVec 32) + _ = _
        simp
  exact h _

/-- A count less 126, as a 32-bit word. -/
theorem ofNat_sub_bias (n : ℕ) : IntOp.subi (BitVec.ofNat 32 n) 126#32 = BitVec.ofInt 32 ((n : ℤ) - 126) := by
  show BitVec.ofNat 32 n - 126#32 = _
  rw [Int.sub_eq_add_neg, BitVec.ofInt_add, BitVec.ofInt_natCast, BitVec.sub_eq_add_neg]
  rfl

/-- The word the kernel compares against at lane `k`: `2 ^ (k - 126)`. -/
theorem power_lane (k : Fin 252) :
    Ideal.ofBits .f32 (IntOp.shli .vector (IntOp.addi (IntOp.subi (BitVec.ofNat 32 k) 126#32) 127#32) 23#32)
      = pow2 ((k : ℤ) - 126) := by
  rw [← ofBits_shifted ((k : ℤ) - 126) (by omega) (by omega)]
  congr 3
  exact ofNat_sub_bias k

theorem ofBits_inf : Ideal.ofBits .f32 2139095040#32 = ⊤ := by
  simp [Ideal.ofBits, Ideal.ieee]

/-- Which of the lanes' powers a positive finite `m` reaches. -/
theorem pow2_le_iff {m : EReal} (h0 : 0 < m) (h1 : m < ⊤) (e : ℤ) : pow2 e ≤ m ↔ e ≤ ⌊Real.log m.toReal / Real.log 2⌋ := by
  lift m to ℝ using ⟨h1.ne, (bot_lt_of_lt h0).ne'⟩
  have hr : (0 : ℝ) < m := by exact_mod_cast h0
  rw [EReal.toReal_coe, pow2, EReal.coe_le_coe_iff]
  rw [Int.le_floor, le_div_iff₀ (Real.log_pos (by norm_num)), ← Real.log_zpow]
  exact (Real.log_le_log_iff (zpow_pos (by norm_num) e) hr).symm

theorem ofBits_zero : Ideal.ofBits .f32 0#32 = 0 := by
  simp [Ideal.ofBits, Ideal.ieee]

/-- A selection under the conjunction "positive and finite". -/
theorem select_finite {α : Type} (m : EReal) (x y : α) :
    Scalar.select (IntOp.andi (Ideal.cmp .ogt m (Ideal.ofBits .f32 0#32)) (Ideal.cmp .olt m (Ideal.ofBits .f32 0x7F800000#32))) x y
      = if 0 < m ∧ m < ⊤ then x else y := by
  rw [ofBits_zero, ofBits_inf]
  by_cases hp : 0 < m <;> by_cases hq : m < ⊤ <;> simp [hp, hq, Scalar.select, IntOp.andi, Ideal.cmp]

/-- A selection under "is zero". -/
theorem select_zero {α : Type} (a : EReal) (x y : α) :
    Scalar.select (Ideal.cmp .oeq a (Ideal.ofBits .f32 0#32)) x y = if a = 0 then x else y := by
  rw [ofBits_zero]
  by_cases h : a = 0 <;> simp [h, Scalar.select, Ideal.cmp]

/-- The kernel's exponent: the count of powers reached, less 126, under its two selections. -/
theorem kernel_exponent (a m : EReal) (hm : m = a * Ideal.ofBits .f32 991054117#32) :
    Scalar.select (Ideal.cmp .oeq a (Ideal.ofBits .f32 0#32)) 0#32 (Scalar.select
      (IntOp.andi (Ideal.cmp .ogt m (Ideal.ofBits .f32 0#32)) (Ideal.cmp .olt m (Ideal.ofBits .f32 0x7F800000#32)))
      (IntOp.subi (Finset.univ.fold IntOp.addi (0#32) (fun k : Fin 252 => BitVec.setWidth 32 (BitVec.ofBool (decide
        (Ideal.ofBits .f32 (IntOp.shli .vector (IntOp.addi (IntOp.subi (BitVec.ofNat 32 k) 126#32) 127#32) 23#32) ≤ m)))))
        126#32) 0#32) = BitVec.ofInt 32 (scaleExp a) := by
  unfold scaleExp
  rw [← hm, select_zero, select_finite]
  by_cases ha : a = 0
  · rw [if_pos ha, if_pos ha]; rfl
  rw [if_neg ha, if_neg ha]
  by_cases h : 0 < m ∧ m < ⊤
  · rw [if_pos h, if_pos h]
    simp only [power_lane]
    rw [fold_count]
    simp only [pow2_le_iff h.1 h.2]
    have hc := card_powers (⌊Real.log m.toReal / Real.log 2⌋)
    rw [ofNat_sub_bias, show max (-126) (min 126 (⌊Real.log m.toReal / Real.log 2⌋ + 1)) = ((Finset.univ.filter fun k : Fin 252 => (k : ℤ) - 126 ≤ ⌊Real.log m.toReal / Real.log 2⌋).card : ℤ) - 126 by omega]
  · rw [if_neg h, if_neg h]
    rfl

/-- The bounds and the step the reference writes, as reals. -/
theorem ofBits_one : Ideal.ofBits .f32 0x3F800000#32 = ((1 : ℝ) : EReal) := by
  simp [Ideal.ofBits, Ideal.ieee]
  rw [← EReal.coe_mul]
  norm_num
theorem ofBits_lo : Ideal.ofBits .f32 0xC2FC0000#32 = ((-126 : ℝ) : EReal) := by
  simp [Ideal.ofBits, Ideal.ieee]
  rw [← EReal.coe_mul]
  norm_num
theorem ofBits_hi : Ideal.ofBits .f32 0x42FC0000#32 = ((126 : ℝ) : EReal) := by
  simp [Ideal.ofBits, Ideal.ieee]
  rw [← EReal.coe_mul]
  norm_num

theorem coe_max (a b : ℝ) : ((max a b : ℝ) : EReal) = max (a : EReal) (b : EReal) :=
  EReal.coe_strictMono.monotone.map_max

theorem coe_min (a b : ℝ) : ((min a b : ℝ) : EReal) = min (a : EReal) (b : EReal) :=
  EReal.coe_strictMono.monotone.map_min

/-- The reference's exponent: the whole part of the logarithm plus one, within the bounds, under its two selections. -/
theorem reference_exponent (a m : EReal) (hm : m = a * Ideal.ofBits .f32 991054117#32) :
    Scalar.select (Ideal.cmp .oeq a (Ideal.ofBits .f32 0#32)) (Ideal.ofBits .f32 0#32) (Scalar.select
      (IntOp.andi (Ideal.cmp .ogt m (Ideal.ofBits .f32 0#32)) (Ideal.cmp .olt m (Ideal.ofBits .f32 0x7F800000#32)))
      (min (Ideal.ofBits .f32 0x42FC0000#32) (max (Ideal.ofBits .f32 0xC2FC0000#32)
        (Ideal.liftRound Int.floor (Ideal.div (Ideal.log m) ((Real.log 2 : ℝ) : EReal)) + Ideal.ofBits .f32 0x3F800000#32)))
      (Ideal.ofBits .f32 0#32)) = (((scaleExp a : ℤ) : ℝ) : EReal) := by
  unfold scaleExp
  rw [← hm, select_zero, select_finite]
  by_cases ha : a = 0
  · rw [if_pos ha, if_pos ha, ofBits_zero]; simp
  rw [if_neg ha, if_neg ha]
  by_cases h : 0 < m ∧ m < ⊤
  · rw [if_pos h, if_pos h]
    obtain ⟨h0, h1⟩ := h
    lift m to ℝ using ⟨h1.ne, (bot_lt_of_lt h0).ne'⟩
    have hr : (0 : ℝ) < m := by exact_mod_cast h0
    rw [Ideal.log_coe, if_neg (not_le.mpr hr), Ideal.div_coe (Real.log_pos (by norm_num)).ne', ← EReal.coe_mul,
      mul_one_div, Ideal.liftRound_coe, ofBits_one, ofBits_lo, ofBits_hi, EReal.toReal_coe, ← EReal.coe_add]
    rw [← coe_max, ← coe_min]
    congr 1
    push_cast
    rw [max_min_distrib_left, min_comm]
    rw [max_eq_right (by norm_num : (-126 : ℝ) ≤ 126), min_comm]
  · rw [if_neg h, if_neg h, ofBits_zero]
    simp

/-- Two to an integral power, as the reference computes it. -/
theorem exp2_int (e : ℤ) : Ideal.exp2 (((e : ℤ) : ℝ) : EReal) = pow2 e := by
  rw [Ideal.exp2_coe, pow2]
  congr 1
  exact Real.rpow_intCast 2 e

theorem exp2_neg_int (e : ℤ) : Ideal.exp2 (0 - (((e : ℤ) : ℝ) : EReal)) = pow2 (-e) := by
  rw [← exp2_int, zero_sub]
  congr 1
  push_cast
  rfl

end Cert.Scale

end
-- ==== Proof.Row.lean ====
/- What both programs compute, one token at a time, over the extended reals. A token has a row `x` of
   5120 activations and an integer position; all tokens share the gain `g`, the weight `w` with its
   column scales, and the 64 rotation frequencies. -/
module

public import proofs.«01_k».proof.Proof.Scale

@[expose] public section

set_option maxRecDepth 16384

noncomputable section

open Idealize.ShloMosaic

namespace Cert.Row

open Cert.Scale

/-- RMS normalization with gain: each activation times the reciprocal root of the mean square (plus a small
    constant), times its gain. -/
def norm (x g : Fin 5120 → EReal) (c : Fin 5120) : EReal :=
  x c * Ideal.rsqrt ((∑ k, x k * x k) * ((1 / 5120 : ℝ) : EReal) + Ideal.ofBits .f32 897988541#32) * g c

/-- The largest absolute value of the normalized row. -/
def amax (x g : Fin 5120 → EReal) : EReal :=
  Finset.univ.fold max (Ideal.ofBits .f32 4286578688#32) fun k => max (norm x g k) (-norm x g k)

/-- The row's scaling exponent. -/
def expo (x g : Fin 5120 → EReal) : ℤ := scaleExp (amax x g)

/-- The row's scale. -/
def scale (x g : Fin 5120 → EReal) : EReal := pow2 (expo x g)

/-- The row's codes: the normalized row over the scale, kept between -448 and 448. -/
def code (x g : Fin 5120 → EReal) (c : Fin 5120) : EReal :=
  min (Ideal.ofBits .f32 1138753536#32) (max (Ideal.ofBits .f32 3286237184#32) (norm x g c * pow2 (-expo x g)))

/-- The projection: codes times a column of weights, summed, times the row's scale and the column's. -/
def proj (x g w : Fin 5120 → EReal) (s : EReal) : EReal :=
  (∑ k, code x g k * w k) * scale x g * s

/-- The angle of rotation frequency `f` at the position `p`. -/
def angle (p : BitVec 32) (f : EReal) : EReal := ((p.toInt : ℝ) : EReal) * f

/-- Rotary embedding of a head `t` of 128 values at lane `c`: the halves rotate against each other, lane
    `c` of the first half with lane `c` of the second, by the angle of frequency `c`. -/
def rope (t : Fin 128 → EReal) (p : BitVec 32) (f : Fin 64 → EReal) (c : Fin 128) : EReal :=
  if h : (c : ℕ) < 64 then
    t c * Ideal.cos (angle p (f ⟨c, h⟩)) - t ⟨c + 64, by omega⟩ * Ideal.sin (angle p (f ⟨c, h⟩))
  else
    t c * Ideal.cos (angle p (f ⟨c - 64, by omega⟩)) + t ⟨c - 64, by omega⟩ * Ideal.sin (angle p (f ⟨c - 64, by omega⟩))

/-- The same rotation as the kernel writes it: the head turned by half its width, times a sine whose sign is changed on
    the first half, the frequencies `F` written out twice along the 128 lanes. -/
theorem rope_of_turn (t : Fin 128 → EReal) (p : BitVec 32) (f : Fin 64 → EReal) (F : Fin 128 → EReal)
    (hF : ∀ c : Fin 128, F c = f ⟨c % 64, by omega⟩) (c : Fin 128) :
    t c * Ideal.cos (angle p (F c)) + t ⟨(c + 128 - 64) % 128, by omega⟩
        * Scalar.select (IntOp.cmpi .slt (BitVec.ofNat 32 c) 64#32) (0 - Ideal.sin (angle p (F c))) (Ideal.sin (angle p (F c)))
      = rope t p f c := by
  have hs : ∀ a b : EReal, Scalar.select (IntOp.cmpi .slt (BitVec.ofNat 32 c) 64#32) a b = if (c : ℕ) < 64 then a else b := by
    intro a b
    have h : IntOp.cmpi .slt (BitVec.ofNat 32 c) 64#32 = BitVec.ofBool (decide ((c : ℕ) < 64)) :=
      (by decide : ∀ c : Fin 128, IntOp.cmpi .slt (BitVec.ofNat 32 c) 64#32 = BitVec.ofBool (decide ((c : ℕ) < 64))) c
    rw [h]
    by_cases hc : (c : ℕ) < 64 <;> simp [hc, Scalar.select]
  rw [hs, hF, rope]
  by_cases h : (c : ℕ) < 64
  · rw [dif_pos h, if_pos h, zero_sub, mul_neg, ← sub_eq_add_neg]
    have e1 : (⟨c % 64, by omega⟩ : Fin 64) = ⟨c, h⟩ := Fin.ext (by simp only []; omega)
    have e2 : (⟨(c + 128 - 64) % 128, by omega⟩ : Fin 128) = ⟨c + 64, by omega⟩ := Fin.ext (by simp only []; omega)
    rw [e1, e2]
  · rw [dif_neg h, if_neg h]
    have e1 : (⟨c % 64, by omega⟩ : Fin 64) = ⟨c - 64, by omega⟩ := Fin.ext (by simp only []; omega)
    have e2 : (⟨(c + 128 - 64) % 128, by omega⟩ : Fin 128) = ⟨c - 64, by omega⟩ := Fin.ext (by simp only []; omega)
    rw [e1, e2]

/-- Lane `c` of head `h` among the 896 columns of the projection. -/
def lane (h : Fin 7) (c : Fin 128) : Fin 896 := ⟨128 * h + c, by omega⟩

/-- Head `h` of the projection. -/
def head (x g : Fin 5120 → EReal) (w : Fin 5120 → Fin 896 → EReal) (s : Fin 896 → EReal) (h : Fin 7) (c : Fin 128) : EReal :=
  proj x g (fun k => w k (lane h c)) (s (lane h c))

end Cert.Row

end
-- ==== Proof.KernelBlock.lean ====
/- What the kernel's body computes from one block of 256 tokens: each value it stores, at a token `r` of the block,
   is the token's own computation (`Cert.Row`) from that token's row and position. -/
module

public import proofs.«01_k».proof.Proof.Row
public import proofs.«01_k».proof.Proof.Gen.KernelIdeal.Frame

@[expose] public section

set_option maxRecDepth 16384

noncomputable section

open Idealize.ShloMosaic Idealize.ShloMosaic.TcCoe Idealize.SL.Sem

namespace Cert.KernelIdeal.Block

open Cert.KernelIdeal Cert.KernelIdeal.Gen

/-- The reciprocal of the row length, which the program names exactly. -/
theorem named_inv : (Named.named κ "inv_d_model" 0x394CCCCD#32 : Ideal .f32) = ((1 / 5120 : ℝ) : EReal) := rfl

/-- Row `r` of a block of activations. -/
abbrev row (x : Vec Ideal S256x5120 .bf16) (r : Fin 256) : Fin 5120 → EReal := fun k => x (ix2 r k)
/-- The gain. -/
abbrev gain (g : Vec Ideal S1x5120 .f32) : Fin 5120 → EReal := fun k => g (ix2 0 k)

variable (x : Vec Ideal S256x5120 .bf16) (g : Vec Ideal S1x5120 .f32) (w : Vec Ideal S5120x896 .fp8e4m3)
  (s : Vec Ideal S1x896 .f32) (p : Vec Ideal S256x1 .i32) (F : Vec Ideal S1x128 .f32)

theorem norm_at (r : Fin 256) (c : Fin 5120) : k0_pay6 x g (ix2 r c) = Row.norm (row x r) (gain g) c := by
  pointwise [k0_pay6]
  rw [named_inv]
  rfl

theorem amax_at (r : Fin 256) (c : Fin 1) : k0_pay7 x g (ix2 r c) = Row.amax (row x r) (gain g) := by
  pointwise [k0_pay7]
  simp only [norm_at]
  rfl

/-- A product with a constant, entry by entry. -/
theorem mul_entry (a : FVec Ideal S256x1 .f32) (c : Ideal .f32) (i : S256x1.Idx) : mulf a (broadcast S256x1 c) i = a i * c := rfl

/-- "Between two constants", entry by entry. -/
theorem between_entry (a : FVec Ideal S256x1 .f32) (c d : Ideal .f32) (i : S256x1.Idx) :
    andi (cmpf .ogt a (broadcast S256x1 c)) (cmpf .olt a (broadcast S256x1 d)) i
      = IntOp.andi (Ideal.cmp .ogt (a i) c) (Ideal.cmp .olt (a i) d) := rfl

/-- The largest absolute value over 448, at a token. -/
theorem ratio_at (i : S256x1.Idx) : k0_pay8 x g i = k0_pay7 x g i * Ideal.ofBits .f32 0x3B124925#32 :=
  mul_entry (k0_pay7 x g) (Ideal.ofBits .f32 0x3B124925#32) i

/-- Whether that ratio is positive and finite. -/
theorem finite_at (i : S256x1.Idx) : k0_pay9 x g i = IntOp.andi (Ideal.cmp .ogt (k0_pay8 x g i) (Ideal.ofBits .f32 0#32))
    (Ideal.cmp .olt (k0_pay8 x g i) (Ideal.ofBits .f32 0x7F800000#32)) :=
  between_entry (k0_pay8 x g) (Ideal.ofBits .f32 0#32) (Ideal.ofBits .f32 0x7F800000#32) i

/-- The count of the powers that the ratio reaches, less 126. -/
theorem count_at (r : Fin 256) : k0_pay10 x g (ix2 r 0) = IntOp.subi (Finset.univ.fold IntOp.addi (0#32)
      (fun k : Fin 252 => BitVec.setWidth 32 (BitVec.ofBool (decide (Ideal.ofBits .f32 (IntOp.shli .vector
        (IntOp.addi (IntOp.subi (BitVec.ofNat 32 k) 126#32) 127#32) 23#32) ≤ k0_pay8 x g (ix2 r 0)))))) 126#32 := by
  pointwise [k0_pay10]

/-- The two selections of the exponent. -/
theorem select_at (a : FVec Ideal S256x1 .f32) (b : IVec S256x1 1) (n : IVec S256x1 32) (i : S256x1.Idx) :
    k0_pay11 a b n 0#32 i
      = Scalar.select (Ideal.cmp .oeq (a i) (Ideal.ofBits .f32 0#32)) 0#32 (Scalar.select (b i) (n i) 0#32) := rfl

theorem exps_at (r : Fin 256) (c : Fin 1) : k0_pay11 (k0_pay7 x g) (k0_pay9 x g) (k0_pay10 x g) 0#32 (ix2 r c)
    = BitVec.ofInt 32 (Row.expo (row x r) (gain g)) := by
  obtain rfl : c = 0 := Subsingleton.elim _ _
  rw [Row.expo, select_at, finite_at, count_at, ratio_at, amax_at]
  exact Scale.kernel_exponent _ _ rfl

theorem scale_at (r : Fin 256) (c : Fin 1) :
    k0_pay12 (k0_pay7 x g) (k0_pay9 x g) (k0_pay10 x g) 0#32 (ix2 r c) = Row.scale (row x r) (gain g) := by
  pointwise [k0_pay12]
  rw [exps_at]
  exact Scale.ofBits_shifted _ (Scale.scaleExp_ge _) ((Scale.scaleExp_le _).trans (by norm_num))

/-- The word of the negated exponent. -/
theorem neg_word (e : ℤ) : IntOp.subi (0#32) (BitVec.ofInt 32 e) = BitVec.ofInt 32 (-e) := by
  show 0#32 - BitVec.ofInt 32 e = _
  rw [BitVec.ofInt_neg, BitVec.zero_sub]

theorem code_at (r : Fin 256) (c : Fin 5120) :
    k0_pay13 (k0_pay6 x g) (k0_pay7 x g) (k0_pay9 x g) (k0_pay10 x g) 0#32 (ix2 r c) = Row.code (row x r) (gain g) c := by
  pointwise [k0_pay13]
  rw [exps_at, norm_at, neg_word, Scale.ofBits_shifted (-Row.expo (row x r) (gain g))]
  · rfl
  · have := Scale.scaleExp_le (Row.amax (row x r) (gain g))
    show -126 ≤ -Scale.scaleExp _
    omega
  · have := Scale.scaleExp_ge (Row.amax (row x r) (gain g))
    show -Scale.scaleExp _ ≤ 127
    omega

/-- The projection's columns, for the block's tokens. -/
abbrev projBlock : FVec Ideal S256x896 .f32 :=
  k0_pay14 (k0_pay6 x g) (k0_pay7 x g) (k0_pay9 x g) (k0_pay10 x g) 0#32 w s

theorem proj_at (r : Fin 256) (j : Fin 896) : projBlock x g w s (ix2 r j)
    = Row.proj (row x r) (gain g) (fun k => w (ix2 k j)) (s (ix2 0 j)) := by
  unfold projBlock
  pointwise [k0_pay14]
  rw [scale_at]
  simp only [code_at]
  rfl

/-- Head `h` of the projection of token `r`. -/
abbrev headAt (r : Fin 256) (h : Fin 7) : Fin 128 → EReal :=
  Row.head (row x r) (gain g) (fun k j => w (ix2 k j)) (fun j => s (ix2 0 j)) h

/-- The five query heads and the key head, turned: from a slice at column `128 h`. -/
theorem turn_at (f : Fin 64 → EReal) (hF : ∀ c : Fin 128, F (ix2 0 c) = f ⟨c % 64, by omega⟩)
    (r : Fin 256) (h : Fin 7) (c : Fin 128) (j j' : Fin 896) (hj : (j : ℕ) = 128 * h + c)
    (hj' : (j' : ℕ) = 128 * h + (c + 128 - 64) % 128) :
    projBlock x g w s (ix2 r j) * k0_pay17 (k0_pay15 p) F (ix2 r c)
      + projBlock x g w s (ix2 r j') * k0_pay18 (k0_pay15 p) F (ix2 r c)
    = Row.rope (headAt x g w s r h) (p (ix2 r 0)) f c := by
  rw [← Row.rope_of_turn (headAt x g w s r h) (p (ix2 r 0)) f (fun c => F (ix2 0 c)) hF c]
  pointwise [k0_pay18, k0_pay17, k0_pay16, k0_pay15]
  rw [proj_at, proj_at]
  obtain rfl : j = Row.lane h c := Fin.ext hj
  have e : j' = Row.lane h ⟨(c + 128 - 64) % 128, by omega⟩ := Fin.ext hj'
  rw [e]
  rfl

variable (f : Fin 64 → EReal) (hF : ∀ c : Fin 128, F (ix2 0 c) = f ⟨c % 64, by omega⟩)
include hF

theorem q0_at (r : Fin 256) (c : Fin 128) :
    k0_pay19 (projBlock x g w s) (k0_pay15 p) F (ix4 0 0 r c) = Row.rope (headAt x g w s r 0) (p (ix2 r 0)) f c := by
  rw [← turn_at x g w s p F f hF r 0 c ⟨c, by omega⟩ ⟨(c + 128 - 64) % 128, by omega⟩ (by simp) (by simp)]
  pointwise [k0_pay19]

theorem q1_at (r : Fin 256) (c : Fin 128) :
    k0_pay20 (projBlock x g w s) (k0_pay15 p) F (ix4 0 0 r c) = Row.rope (headAt x g w s r 1) (p (ix2 r 0)) f c := by
  rw [← turn_at x g w s p F f hF r 1 c ⟨128 + c, by omega⟩ ⟨128 + (c + 128 - 64) % 128, by omega⟩ rfl rfl]
  pointwise [k0_pay20]

theorem q2_at (r : Fin 256) (c : Fin 128) :
    k0_pay1 (k0_pay21 (projBlock x g w s) (k0_pay15 p) F) (ix4 0 0 r c) = Row.rope (headAt x g w s r 2) (p (ix2 r 0)) f c := by
  rw [← turn_at x g w s p F f hF r 2 c ⟨256 + c, by omega⟩ ⟨256 + (c + 128 - 64) % 128, by omega⟩ rfl rfl]
  pointwise [k0_pay1, k0_pay21]

theorem q3_at (r : Fin 256) (c : Fin 128) :
    k0_pay2 (projBlock x g w s) (k0_pay17 (k0_pay15 p) F) (k0_pay18 (k0_pay15 p) F) (ix4 0 0 r c) = Row.rope (headAt x g w s r 3) (p (ix2 r 0)) f c := by
  rw [← turn_at x g w s p F f hF r 3 c ⟨384 + c, by omega⟩ ⟨384 + (c + 128 - 64) % 128, by omega⟩ rfl rfl]
  pointwise [k0_pay2]

theorem q4_at (r : Fin 256) (c : Fin 128) :
    k0_pay3 (projBlock x g w s) (k0_pay17 (k0_pay15 p) F) (k0_pay18 (k0_pay15 p) F) (ix4 0 0 r c) = Row.rope (headAt x g w s r 4) (p (ix2 r 0)) f c := by
  rw [← turn_at x g w s p F f hF r 4 c ⟨512 + c, by omega⟩ ⟨512 + (c + 128 - 64) % 128, by omega⟩ rfl rfl]
  pointwise [k0_pay3]

theorem k_at (r : Fin 256) (c : Fin 128) :
    k0_pay4 (projBlock x g w s) (k0_pay17 (k0_pay15 p) F) (k0_pay18 (k0_pay15 p) F) (ix2 r c) = Row.rope (headAt x g w s r 5) (p (ix2 r 0)) f c := by
  rw [← turn_at x g w s p F f hF r 5 c ⟨640 + c, by omega⟩ ⟨640 + (c + 128 - 64) % 128, by omega⟩ rfl rfl]
  pointwise [k0_pay4]

omit hF in
theorem v_at (r : Fin 256) (c : Fin 128) : k0_pay5 (projBlock x g w s) (ix2 r c) = headAt x g w s r 6 c := by
  pointwise [k0_pay5]
  rw [proj_at]
  rfl

end Cert.KernelIdeal.Block

end
-- ==== Proof.KernelArray.lean ====
/- What the kernel's result arrays hold after its 128 grid points: every entry is the computation of one token
   (`Cert.Row`) from that token's row and position, over the arrays that the region finds. -/
module

public import proofs.«01_k».proof.Proof.KernelBlock
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Block

variable (m : (ℓ : Loc nD τ sig) → Buf (Elt Ideal) ℓ)

/-- Token `R`'s row, as the region finds it. -/
def X (c : Dev nD) (R : Fin 32768) : Fin 5120 → EReal := fun k => (show FVec Ideal S32768x5120 .bf16 from V m c main_v8) (ix2 R k)
/-- The gain. -/
def G (c : Dev nD) : Fin 5120 → EReal := fun k => (show FVec Ideal S1x5120 .f32 from V m c main_v9) (ix2 0 k)
/-- The weight. -/
def W (c : Dev nD) : Fin 5120 → Fin 896 → EReal := fun k j => (show FVec Ideal S5120x896 .fp8e4m3 from V m c main_arg2) (ix2 k j)
/-- The weight's column scales. -/
def S (c : Dev nD) : Fin 896 → EReal := fun j => (show FVec Ideal S1x896 .f32 from V m c main_v10) (ix2 0 j)
/-- Token `R`'s position. -/
def P (c : Dev nD) (R : Fin 32768) : BitVec 32 := (show IVec S32768x1 32 from V m c main_v11) (ix2 R 0)

/-- Every window's block at point `t`. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![0, 0]
    ∧ win0_6.index t = ![t.val / 32, 0, t.val % 32, 0] ∧ win0_7.index t = ![t.val, 0] ∧ win0_8.index t = ![t.val, 0]
    ∧ win0_9.index t = ![t.val, 0] ∧ win0_10.index t = ![t.val, 0] :=
  (by decide +kernel : ∀ t : Fin grid0.N, _)

/-- Token `r` of point `t`. -/
def tok (t : Fin cfg0.N) (r : Fin 256) : Fin 32768 :=
  ⟨t.val * 256 + r, by have := lt_of_lt_of_eq t.isLt (by decide +kernel : cfg0.N = 128); omega⟩

theorem row_blk (c : Dev nD) (t : Fin cfg0.N) (r : Fin 256) : row (iblk m c 0 t) r = X m c (tok t r) := by
  funext k
  show (show FVec Ideal S256x5120 .bf16 from iblk m c 0 t) (ix2 r k) = (show FVec Ideal S32768x5120 .bf16 from V m c main_v8) (ix2 (tok t r) k)
  blk_ext [iblk, idx t, tok]

theorem gain_blk (c : Dev nD) (t : Fin cfg0.N) : gain (iblk m c 1 t) = G m c := by
  funext k
  show (show FVec Ideal S1x5120 .f32 from iblk m c 1 t) (ix2 0 k) = (show FVec Ideal S1x5120 .f32 from V m c main_v9) (ix2 0 k)
  blk_ext [iblk, idx t]

theorem weight_blk (c : Dev nD) (t : Fin cfg0.N) : (fun k j => (show FVec Ideal S5120x896 .fp8e4m3 from iblk m c 2 t) (ix2 k j)) = W m c := by
  funext k j
  show (show FVec Ideal S5120x896 .fp8e4m3 from iblk m c 2 t) (ix2 k j) = (show FVec Ideal S5120x896 .fp8e4m3 from V m c main_arg2) (ix2 k j)
  blk_ext [iblk, idx t]

theorem scales_blk (c : Dev nD) (t : Fin cfg0.N) : (fun j => (show FVec Ideal S1x896 .f32 from iblk m c 3 t) (ix2 0 j)) = S m c := by
  funext j
  show (show FVec Ideal S1x896 .f32 from iblk m c 3 t) (ix2 0 j) = (show FVec Ideal S1x896 .f32 from V m c main_v10) (ix2 0 j)
  blk_ext [iblk, idx t]

theorem pos_blk (c : Dev nD) (t : Fin cfg0.N) (r : Fin 256) : (show IVec S256x1 32 from iblk m c 4 t) (ix2 r 0) = P m c (tok t r) := by
  show (show IVec S256x1 32 from iblk m c 4 t) (ix2 r 0) = (show IVec S32768x1 32 from V m c main_v11) (ix2 (tok t r) 0)
  blk_ext [iblk, idx t, tok]

theorem freq_blk (c : Dev nD) (t : Fin cfg0.N) (j : Fin 128) :
    (show FVec Ideal S1x128 .f32 from iblk m c 5 t) (ix2 0 j) = (show FVec Ideal S1x128 .f32 from V m c main_v7) (ix2 0 j) := by
  blk_ext [iblk, idx t]

/-- The scales. -/
theorem scales (c : Dev nD) : (dats m 0 c).arrAt 10 cfg0.N
    = fun i : S32768x1.Idx => Row.scale (X m c (i 0)) (G m c) := by
  refine (dats m 0 c).arrAt_eq_of_covers 10 _ (by decide +kernel) fun t hf y => ?_
  blk_simp
  rw [after0_10]
  unfold_out out0_10
  frame_out
  idx_vars y
  refine (scale_at _ _ y0 y1).trans (congrArg₂ Row.scale ((row_blk m c t y0).trans (congrArg (X m c) ?_)) (gain_blk m c t))
  apply Fin.ext
  blk_simp [idx t, tok]
  <;> try omega

/-- The codes. -/
theorem codes (c : Dev nD) : (dats m 0 c).arrAt 9 cfg0.N
    = fun i : S32768x5120.Idx => Row.code (X m c (i 0)) (G m c) (i 1) := by
  refine (dats m 0 c).arrAt_eq_of_covers 9 _ (by decide +kernel) fun t hf y => ?_
  blk_simp
  rw [after0_9]
  unfold_out out0_9
  frame_out
  idx_vars y
  refine (code_at _ _ y0 y1).trans ?_
  refine Eq.trans (congrArg₂ (fun a b => Row.code a b y1) (row_blk m c t y0) (gain_blk m c t)) ?_
  have e0 : tok t y0 = ((cfg0.win 9).blk t).view.emb (ix2 y0 y1) 0 := by
    apply Fin.ext
    blk_simp [idx t, tok]
    try omega
  have e1 : y1 = ((cfg0.win 9).blk t).view.emb (ix2 y0 y1) 1 := by
    apply Fin.ext
    blk_simp [idx t, tok]
    try omega
  rw [e0]
  exact congrArg (Row.code _ _) e1

/-- Head `h` of token `R`'s projection. -/
abbrev head (c : Dev nD) (R : Fin 32768) (h : Fin 7) : Fin 128 → EReal := Row.head (X m c R) (G m c) (W m c) (S m c) h

theorem head_blk (c : Dev nD) (t : Fin cfg0.N) (r : Fin 256) (h : Fin 7) :
    headAt (iblk m c 0 t) (iblk m c 1 t) (iblk m c 2 t) (iblk m c 3 t) r h = head m c (tok t r) h := by
  unfold headAt
  rw [row_blk, gain_blk]
  exact congrArg₂ (fun w s => Row.head (X m c (tok t r)) (G m c) w s h) (weight_blk m c t) (scales_blk m c t)

/-- The values. -/
theorem values (c : Dev nD) : (dats m 0 c).arrAt 8 cfg0.N
    = fun i : S32768x128.Idx => head m c (i 0) 6 (i 1) := by
  refine (dats m 0 c).arrAt_eq_of_covers 8 _ (by decide +kernel) fun t hf y => ?_
  blk_simp
  rw [after0_8]
  unfold_out out0_8
  frame_out
  idx_vars y
  refine (v_at _ _ _ _ y0 y1).trans ?_
  refine Eq.trans (congrFun (head_blk m c t y0 6) y1) ?_
  have e0 : tok t y0 = ((cfg0.win 8).blk t).view.emb (ix2 y0 y1) 0 := by
    apply Fin.ext
    blk_simp [idx t, tok]
    try omega
  have e1 : y1 = ((cfg0.win 8).blk t).view.emb (ix2 y0 y1) 1 := by
    apply Fin.ext
    blk_simp [idx t, tok]
    try omega
  rw [e0]
  exact congrArg (head m c _ 6) e1

variable (f : Fin 64 → EReal)

/-- The keys, from the 64 frequencies `f` that the 128 lanes repeat. -/
theorem keys (c : Dev nD) (hF : ∀ j : Fin 128, (show FVec Ideal S1x128 .f32 from V m c main_v7) (ix2 0 j) = f ⟨j % 64, by omega⟩) :
    (dats m 0 c).arrAt 7 cfg0.N = fun i : S32768x128.Idx => Row.rope (head m c (i 0) 5) (P m c (i 0)) f (i 1) := by
  refine (dats m 0 c).arrAt_eq_of_covers 7 _ (by decide +kernel) fun t hf y => ?_
  blk_simp
  rw [after0_7]
  unfold_out out0_7
  frame_out
  idx_vars y
  refine (k_at _ _ _ _ _ _ f (fun j => (freq_blk m c t j).trans (hF j)) y0 y1).trans ?_
  refine Eq.trans (congrArg₂ (fun a b => Row.rope a b f y1) (head_blk m c t y0 5) (pos_blk m c t y0)) ?_
  have e0 : tok t y0 = ((cfg0.win 7).blk t).view.emb (ix2 y0 y1) 0 := by
    apply Fin.ext
    blk_simp [idx t, tok]
    try omega
  have e1 : y1 = ((cfg0.win 7).blk t).view.emb (ix2 y0 y1) 1 := by
    apply Fin.ext
    blk_simp [idx t, tok]
    try omega
  rw [e0]
  exact congrArg (Row.rope _ _ f) e1

/-- Token `(b, s)`'s place among the 32768 tokens. -/
def flat (b : Fin 4) (s : Fin 8192) : Fin 32768 := ⟨b * 8192 + s, by omega⟩

end Cert.KernelIdeal.Arrays

end
-- ==== Proof.KernelQueries.lean ====
/- What the kernel's query array holds after its 128 grid points. A grid point writes its tokens' five query heads
   by five stores, one per head. -/
module

public import proofs.«01_k».proof.Proof.KernelArray
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Block

variable (m : (ℓ : Loc nD τ sig) → Buf (Elt Ideal) ℓ)

variable (f : Fin 64 → EReal)

/-- Lane `l` of query head `h` of token `(b, s)`, turned. -/
def query (c : Dev nD) (b : Fin 4) (h : Fin 5) (s : Fin 8192) (l : Fin 128) : EReal :=
  Row.rope (head m c (flat b s) (Fin.castLE (by decide) h)) (P m c (flat b s)) f l

theorem query_eq (c : Dev nD) (b : Fin 4) (h : Fin 5) (s : Fin 8192) (l : Fin 128) (R : Fin 32768) (h' : Fin 7) (l' : Fin 128)
    (eR : (b : ℕ) * 8192 + s = R) (eh : (h : ℕ) = h') (el : (l : ℕ) = l') :
    query m f c b h s l = Row.rope (head m c R h') (P m c R) f l' := by
  obtain rfl : flat b s = R := Fin.ext eR
  obtain rfl : Fin.castLE (by decide) h = h' := Fin.ext eh
  obtain rfl : l = l' := Fin.ext el
  rfl

/-- The query array. -/
def Q (c : Dev nD) (i : S4x5x8192x128.Idx) : EReal := query m f c (i 0) (i 1) (i 2) (i 3)

/-- The entry under place `(h, r, l)` of point `t`'s block. -/
theorem Q_blk (c : Dev nD) (t : Fin cfg0.N) (y : S1x5x256x128.Idx) (h : Fin 7) (r : Fin 256) (l : Fin 128)
    (h1 : (y 1 : ℕ) = h) (h2 : (y 2 : ℕ) = r) (h3 : (y 3 : ℕ) = l) :
    Q m f c (((cfg0.win 6).blk t).view.emb y) = Row.rope (head m c (tok t r) h) (P m c (tok t r)) f l := by
  have hy : (y 0 : ℕ) < 1 := (y 0).isLt
  refine query_eq m f c _ _ _ _ _ _ _ ?_ ?_ ?_
  · show _ = t.val * 256 + (r : ℕ)
    blk_simp [idx t]
    omega
  · blk_simp [idx t]
    omega
  · blk_simp [idx t]
    omega

/-- A place of one head's store. -/
theorem place (x : S1x1x256x128.Idx) : x = ix4 0 0 (x 2) (x 3) := by
  idx_vars x
  obtain rfl : x0 = 0 := Subsingleton.elim _ _
  obtain rfl : x1 = 0 := Subsingleton.elim _ _
  rfl

/-- The five query heads. -/
theorem queries (c : Dev nD) (hF : ∀ j : Fin 128, (show FVec Ideal S1x128 .f32 from V m c main_v7) (ix2 0 j) = f ⟨j % 64, by omega⟩) :
    (dats m 0 c).arrAt 6 cfg0.N = Q m f c := by
  refine (dats m 0 c).arrAt_eq_of_covers 6 _ (by decide +kernel) fun t hf y => ?_
  blk_simp
  rw [after0_6]
  unfold_out out0_6
  canon_tiles x h
  case piece0 =>
    rw [Q_blk m f c t y 4 (x 2) (x 3) (by simp only []; omega) h2 h3]
    frame_out
    refine Eq.trans (congrArg _ (place x)) ((q4_at (iblk m c 0 t) (iblk m c 1 t) (iblk m c 2 t) (iblk m c 3 t) (iblk m c 4 t) (iblk m c 5 t)
      f (fun j => (freq_blk m c t j).trans (hF j)) (x 2) (x 3)).trans ?_)
    exact congrArg₂ (fun a b => Row.rope a b f (x 3)) (head_blk m c t (x 2) 4) (pos_blk m c t (x 2))
  case piece1 =>
    rw [Q_blk m f c t y 3 (x 2) (x 3) (by simp only []; omega) h2 h3]
    frame_out
    refine Eq.trans (congrArg _ (place x)) ((q3_at (iblk m c 0 t) (iblk m c 1 t) (iblk m c 2 t) (iblk m c 3 t) (iblk m c 4 t) (iblk m c 5 t)
      f (fun j => (freq_blk m c t j).trans (hF j)) (x 2) (x 3)).trans ?_)
    exact congrArg₂ (fun a b => Row.rope a b f (x 3)) (head_blk m c t (x 2) 3) (pos_blk m c t (x 2))
  case piece2 =>
    rw [Q_blk m f c t y 2 (x 2) (x 3) (by simp only []; omega) h2 h3]
    frame_out
    refine Eq.trans (congrArg _ (place x)) ((q2_at (iblk m c 0 t) (iblk m c 1 t) (iblk m c 2 t) (iblk m c 3 t) (iblk m c 4 t) (iblk m c 5 t)
      f (fun j => (freq_blk m c t j).trans (hF j)) (x 2) (x 3)).trans ?_)
    exact congrArg₂ (fun a b => Row.rope a b f (x 3)) (head_blk m c t (x 2) 2) (pos_blk m c t (x 2))
  case piece3 =>
    rw [Q_blk m f c t y 1 (x 2) (x 3) (by simp only []; omega) h2 h3]
    frame_out
    refine Eq.trans (congrArg _ (place x)) ((q1_at (iblk m c 0 t) (iblk m c 1 t) (iblk m c 2 t) (iblk m c 3 t) (iblk m c 4 t) (iblk m c 5 t)
      f (fun j => (freq_blk m c t j).trans (hF j)) (x 2) (x 3)).trans ?_)
    exact congrArg₂ (fun a b => Row.rope a b f (x 3)) (head_blk m c t (x 2) 1) (pos_blk m c t (x 2))
  case piece4 =>
    rw [Q_blk m f c t y 0 (x 2) (x 3) (by simp only []; omega) h2 h3]
    frame_out
    refine Eq.trans (congrArg _ (place x)) ((q0_at (iblk m c 0 t) (iblk m c 1 t) (iblk m c 2 t) (iblk m c 3 t) (iblk m c 4 t) (iblk m c 5 t)
      f (fun j => (freq_blk m c t j).trans (hF j)) (x 2) (x 3)).trans ?_)
    exact congrArg₂ (fun a b => Row.rope a b f (x 3)) (head_blk m c t (x 2) 0) (pos_blk m c t (x 2))

end Cert.KernelIdeal.Arrays

end
-- ==== Proof.KernelRun.lean ====
/- The kernel's run: the arrays that its region finds, from the arguments, and its five results, from the arrays that the region
   leaves. -/
module

public import proofs.«01_k».proof.Proof.KernelQueries

@[expose] public section

set_option maxRecDepth 16384

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Block

variable (m : (ℓ : Loc nD τ sig) → Buf (Elt Ideal) ℓ)

/-- The activations, one row per token. -/
theorem entry_x (c : Dev nD) : V m c main_v8
    = shapeCast S32768x5120 (show FVec Ideal S4x8192x5120 .bf16 from m ((c : Thread nD τ).loc main_arg0)) shapeCasts_S4x8192x5120_S32768x5120 := by
  unfold V V0 hostOps0
  simp only [List.flatten_cons, List.flatten_nil, List.append_nil]
  after_results
  rfl

/-- The gain as one row. -/
theorem entry_g (c : Dev nD) : V m c main_v9
    = shapeCast S1x5120 (show FVec Ideal S5120 .f32 from m ((c : Thread nD τ).loc main_arg1)) shapeCasts_S5120_S1x5120 := by
  unfold V V0 hostOps0
  simp only [List.flatten_cons, List.flatten_nil, List.append_nil]
  after_results
  rfl

/-- The column scales as one row. -/
theorem entry_s (c : Dev nD) : V m c main_v10
    = shapeCast S1x896 (show FVec Ideal S896 .f32 from m ((c : Thread nD τ).loc main_arg3)) shapeCasts_S896_S1x896 := by
  unfold V V0 hostOps0
  simp only [List.flatten_cons, List.flatten_nil, List.append_nil]
  after_results
  rfl

/-- The positions, one per token. -/
theorem entry_p (c : Dev nD) : V m c main_v11
    = shapeCast S32768x1 (show IVec S4x8192 32 from m ((c : Thread nD τ).loc main_arg4)) shapeCasts_S4x8192_S32768x1 := by
  unfold V V0 hostOps0
  simp only [List.flatten_cons, List.flatten_nil, List.append_nil]
  after_results
  rfl

/-- The 64 rotation frequencies, `10000` to the power `-j / 64`. -/
def freq : FVec Ideal S64 .f32 :=
  Host.powf (broadcastInDim S64 ![] bcast_S_S64 (constant (F := Ideal) S_ .f32 0x461C4000#32))
    (mulf (Host.negf (sitofp .f32 (iotaInDim S64 32 0))) (broadcastInDim S64 ![] bcast_S_S64 (constant (F := Ideal) S_ .f32 0x3C800000#32)))

/-- The frequencies, written out twice along 128 lanes. -/
theorem entry_f (c : Dev nD) (j : Fin 128) : (show FVec Ideal S1x128 .f32 from V m c main_v7) (ix2 0 j) = freq (ix1 ⟨j % 64, by omega⟩) := by
  have e : V m c main_v7 = shapeCast S1x128 (concatenate S128 0 [⟨S64, freq⟩, ⟨S64, freq⟩] concatenates_S64_S64_S128_d0) shapeCasts_S128_S1x128 := by
    unfold V V0 hostOps0
    simp only [List.flatten_cons, List.flatten_nil, List.append_nil]
    after_results
    rfl
  rw [e]
  generalize freq = f
  pointwise
  by_cases h : (j : ℕ) < 64
  · rw [dif_pos h]
    exact congrArg f (congrArg ix1 (Fin.ext (by simp only []; omega)))
  · rw [dif_neg h]
    exact congrArg f (congrArg ix1 (Fin.ext (by simp only []; omega)))

/-- The queries, heads behind tokens. -/
theorem tail_q (c : Dev nD) : Pipeline.afterTail₀ cfgs (dats m) 0 (V0 m) [hostOps1] c main_v13
    = transpose S4x8192x5x128 [0, 2, 1, 3] (show FVec Ideal S4x5x8192x128 .bf16 from (dats m 0 c).arrAt 6 cfg0.N) transposes_S4x5x8192x128_S4x8192x5x128_0_2_1_3 := by
  unfold Pipeline.afterTail₀ hostOps1
  simp only [List.flatten_cons, List.flatten_nil, List.append_nil]
  after_results
  exact congrArg (fun a : FVec Ideal S4x5x8192x128 .bf16 => transpose S4x8192x5x128 [0, 2, 1, 3] a transposes_S4x5x8192x128_S4x8192x5x128_0_2_1_3)
    (Pipeline.withArrays_arr spec0 launch0.win.arr_inj c (V0 m c) (fun w => (dats m 0 c).arrAt w cfg0.N) 6)

/-- The keys. -/
theorem tail_k (c : Dev nD) : Pipeline.afterTail₀ cfgs (dats m) 0 (V0 m) [hostOps1] c main_v14
    = shapeCast S4x8192x1x128 (show FVec Ideal S32768x128 .bf16 from (dats m 0 c).arrAt 7 cfg0.N) shapeCasts_S32768x128_S4x8192x1x128 := by
  unfold Pipeline.afterTail₀ hostOps1
  simp only [List.flatten_cons, List.flatten_nil, List.append_nil]
  after_results
  exact congrArg (fun a : FVec Ideal S32768x128 .bf16 => shapeCast S4x8192x1x128 a shapeCasts_S32768x128_S4x8192x1x128)
    (Pipeline.withArrays_arr spec0 launch0.win.arr_inj c (V0 m c) (fun w => (dats m 0 c).arrAt w cfg0.N) 7)

/-- The values. -/
theorem tail_v (c : Dev nD) : Pipeline.afterTail₀ cfgs (dats m) 0 (V0 m) [hostOps1] c main_v15
    = shapeCast S4x8192x1x128 (show FVec Ideal S32768x128 .bf16 from (dats m 0 c).arrAt 8 cfg0.N) shapeCasts_S32768x128_S4x8192x1x128 := by
  unfold Pipeline.afterTail₀ hostOps1
  simp only [List.flatten_cons, List.flatten_nil, List.append_nil]
  after_results
  exact congrArg (fun a : FVec Ideal S32768x128 .bf16 => shapeCast S4x8192x1x128 a shapeCasts_S32768x128_S4x8192x1x128)
    (Pipeline.withArrays_arr spec0 launch0.win.arr_inj c (V0 m c) (fun w => (dats m 0 c).arrAt w cfg0.N) 8)

/-- The codes. -/
theorem tail_codes (c : Dev nD) : Pipeline.afterTail₀ cfgs (dats m) 0 (V0 m) [hostOps1] c main_v16
    = shapeCast S4x8192x5120 (show FVec Ideal S32768x5120 .fp8e4m3 from (dats m 0 c).arrAt 9 cfg0.N) shapeCasts_S32768x5120_S4x8192x5120 := by
  unfold Pipeline.afterTail₀ hostOps1
  simp only [List.flatten_cons, List.flatten_nil, List.append_nil]
  after_results
  exact congrArg (fun a : FVec Ideal S32768x5120 .fp8e4m3 => shapeCast S4x8192x5120 a shapeCasts_S32768x5120_S4x8192x5120)
    (Pipeline.withArrays_arr spec0 launch0.win.arr_inj c (V0 m c) (fun w => (dats m 0 c).arrAt w cfg0.N) 9)

/-- The scales. -/
theorem tail_scales (c : Dev nD) : Pipeline.afterTail₀ cfgs (dats m) 0 (V0 m) [hostOps1] c main_v17
    = shapeCast S4x8192x1 (show FVec Ideal S32768x1 .f32 from (dats m 0 c).arrAt 10 cfg0.N) shapeCasts_S32768x1_S4x8192x1 := by
  unfold Pipeline.afterTail₀ hostOps1
  simp only [List.flatten_cons, List.flatten_nil, List.append_nil]
  after_results
  exact congrArg (fun a : FVec Ideal S32768x1 .f32 => shapeCast S4x8192x1 a shapeCasts_S32768x1_S4x8192x1)
    (Pipeline.withArrays_arr spec0 launch0.win.arr_inj c (V0 m c) (fun w => (dats m 0 c).arrAt w cfg0.N) 10)

/-- What the program ends with: its five results, read off after the host's last operations, and its arguments as they
    were. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v13) = Pipeline.afterTail₀ cfgs (dats m) 0 (V0 m) [hostOps1] c main_v13
      ∧ r.2.mem ((c.tc : Thread nD τ).loc main_v14) = Pipeline.afterTail₀ cfgs (dats m) 0 (V0 m) [hostOps1] c main_v14
      ∧ r.2.mem ((c.tc : Thread nD τ).loc main_v15) = Pipeline.afterTail₀ cfgs (dats m) 0 (V0 m) [hostOps1] c main_v15
      ∧ r.2.mem ((c.tc : Thread nD τ).loc main_v16) = Pipeline.afterTail₀ cfgs (dats m) 0 (V0 m) [hostOps1] c main_v16
      ∧ r.2.mem ((c.tc : Thread nD τ).loc main_v17) = Pipeline.afterTail₀ cfgs (dats m) 0 (V0 m) [hostOps1] c main_v17
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c).2 main_v13 (Pipeline.mem_restRefs_of main_v13 (by decide) (by decide)),
     (h c).2 main_v14 (Pipeline.mem_restRefs_of main_v14 (by decide) (by decide)),
     (h c).2 main_v15 (Pipeline.mem_restRefs_of main_v15 (by decide) (by decide)),
     (h c).2 main_v16 (Pipeline.mem_restRefs_of main_v16 (by decide) (by decide)),
     (h c).2 main_v17 (Pipeline.mem_restRefs_of main_v17 (by decide) (by decide)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).1 2).trans (((dats m 0 c).arrAt_in 2 rfl _).trans ((A_eq m c 2).trans (V_main_arg2 m c))),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩) (run_main m g)

end Cert.KernelIdeal.Arrays

end
-- ==== Proof.ReferenceBlock.lean ====
/- What the reference's one body computes: each value it stores, at a token `r`, is the token's own computation
   (`Cert.Row`) from that token's row and position. -/
module

public import proofs.«01_k».proof.Proof.Row
public import proofs.«01_k».proof.Proof.Gen.ReferenceIdeal.Frame

@[expose] public section

set_option maxRecDepth 16384

noncomputable section

open Idealize.ShloMosaic Idealize.ShloMosaic.TcCoe Idealize.SL.Sem

namespace Cert.ReferenceIdeal.Block

open Cert.ReferenceIdeal Cert.ReferenceIdeal.Gen

/-- The natural logarithm of 2, which the program names exactly. -/
theorem named_log : (Named.named κ "log_two" 0x3F317218#32 : Ideal .f32) = ((Real.log 2 : ℝ) : EReal) := rfl

/-- Row `r` of the activations. -/
abbrev row (x : Vec Ideal S32768x5120 .bf16) (r : Fin 32768) : Fin 5120 → EReal := fun k => x (ix2 r k)
/-- The gain. -/
abbrev gain (g : Vec Ideal S1x5120 .f32) : Fin 5120 → EReal := fun k => g (ix2 0 k)

variable (x : Vec Ideal S32768x5120 .bf16) (g : Vec Ideal S1x5120 .f32) (w : Vec Ideal S5120x896 .fp8e4m3)
  (s : Vec Ideal S1x896 .f32) (p : Vec Ideal S32768x1 .i32) (F : Vec Ideal S1x64 .f32)

/-- A mean of 5120 terms: dividing by 5120 is multiplying by its reciprocal. -/
theorem mean (a : EReal) : Ideal.div a (Ideal.ofBits .f32 0x45A00000#32) = a * ((1 / 5120 : ℝ) : EReal) := by
  have h : Ideal.ofBits .f32 0x45A00000#32 = ((5120 : ℝ) : EReal) := by
    simp [Ideal.ofBits, Ideal.ieee]
    rw [← EReal.coe_mul]
    norm_num
  rw [h, Ideal.div_coe (by norm_num)]

theorem norm_at (r : Fin 32768) (c : Fin 5120) : k0_pay4 x g (ix2 r c) = Row.norm (row x r) (gain g) c := by
  pointwise [k0_pay4]
  rw [mean]
  rfl

theorem amax_at (r : Fin 32768) (c : Fin 1) : k0_pay5 x g (ix2 r c) = Row.amax (row x r) (gain g) := by
  pointwise [k0_pay5]
  simp only [norm_at]
  rfl

/-- The exponent that the reference computes from a largest absolute value `a`, where `a` is not zero. -/
def exponentOf (a : EReal) : EReal :=
  Scalar.select (IntOp.andi (Ideal.cmp .ogt (a * Ideal.ofBits .f32 0x3B124925#32) (Ideal.ofBits .f32 0#32))
        (Ideal.cmp .olt (a * Ideal.ofBits .f32 0x3B124925#32) (Ideal.ofBits .f32 0x7F800000#32)))
      (min (Ideal.ofBits .f32 0x42FC0000#32) (max (Ideal.ofBits .f32 0xC2FC0000#32)
        (Ideal.liftRound Int.floor (Ideal.div (Ideal.log (a * Ideal.ofBits .f32 0x3B124925#32)) ((Real.log 2 : ℝ) : EReal))
          + Ideal.ofBits .f32 0x3F800000#32)))
      (Ideal.ofBits .f32 0#32)

/-- The exponent of a ratio, entry by entry. -/
theorem exponent_entry (a : FVec Ideal S32768x1 .f32) (i : S32768x1.Idx) :
    select (andi (cmpf .ogt (mulf a (broadcast S32768x1 (Ideal.ofBits .f32 0x3B124925#32))) (broadcast S32768x1 (Ideal.ofBits .f32 0#32)))
        (cmpf .olt (mulf a (broadcast S32768x1 (Ideal.ofBits .f32 0x3B124925#32))) (broadcast S32768x1 (Ideal.ofBits .f32 0x7F800000#32))))
      (minimumf (broadcast S32768x1 (Ideal.ofBits .f32 0x42FC0000#32)) (maximumf (broadcast S32768x1 (Ideal.ofBits .f32 0xC2FC0000#32))
        (addf (floor (divf (log (mulf a (broadcast S32768x1 (Ideal.ofBits .f32 0x3B124925#32))))
          (broadcast S32768x1 (Named.named κ "log_two" 0x3F317218#32)))) (broadcast S32768x1 (Ideal.ofBits .f32 0x3F800000#32)))))
      (broadcast S32768x1 (Ideal.ofBits .f32 0#32)) i
    = exponentOf (a i) := rfl

/-- A selection of two vectors, entry by entry. -/
theorem select_entry (a : FVec Ideal S32768x1 .f32) (b d : FVec Ideal S32768x1 .f32) (i : S32768x1.Idx) :
    select (cmpf .oeq a (broadcast S32768x1 (Ideal.ofBits .f32 0#32))) b d i
      = Scalar.select (Ideal.cmp .oeq (a i) (Ideal.ofBits .f32 0#32)) (b i) (d i) := rfl

theorem ratio_at (i : S32768x1.Idx) : k0_pay6 x g i = exponentOf (k0_pay5 x g i) := exponent_entry (k0_pay5 x g) i

theorem exps_at (r : Fin 32768) (c : Fin 1) : k0_pay9 (k0_pay6 x g) (k0_pay7 x g) (k0_pay8 (F := Ideal)) (ix2 r c)
    = (((Row.expo (row x r) (gain g) : ℤ) : ℝ) : EReal) := by
  refine (select_entry (k0_pay5 x g) (k0_pay8 (F := Ideal)) (k0_pay6 x g) (ix2 r c)).trans ?_
  rw [ratio_at, amax_at]
  exact Scale.reference_exponent _ _ rfl

theorem exp2_entry (a : FVec Ideal S32768x1 .f32) (b : IVec S32768x1 1) (d : FVec Ideal S32768x1 .f32) (i : S32768x1.Idx) :
    k0_pay10 a b d i = Ideal.exp2 (k0_pay9 a b d i) := rfl

theorem scale_at (r : Fin 32768) (c : Fin 1) :
    k0_pay10 (k0_pay6 x g) (k0_pay7 x g) (k0_pay8 (F := Ideal)) (ix2 r c) = Row.scale (row x r) (gain g) := by
  rw [exp2_entry, exps_at]
  exact Scale.exp2_int _

/-- The clipped product, in terms of the exponent. -/
theorem code_entry (n : FVec Ideal S32768x5120 .f32) (a : FVec Ideal S32768x1 .f32) (b : IVec S32768x1 1) (d : FVec Ideal S32768x1 .f32)
    (r : Fin 32768) (c : Fin 5120) : k0_pay11 n a b d (ix2 r c)
      = min (Ideal.ofBits .f32 1138753536#32) (max (Ideal.ofBits .f32 3286237184#32)
          (n (ix2 r c) * Ideal.exp2 (0 - k0_pay9 a b d (ix2 r 0)))) := by
  pointwise [k0_pay11]
  rfl

theorem code_at (r : Fin 32768) (c : Fin 5120) :
    k0_pay11 (k0_pay4 x g) (k0_pay6 x g) (k0_pay7 x g) (k0_pay8 (F := Ideal)) (ix2 r c) = Row.code (row x r) (gain g) c := by
  rw [code_entry, exps_at, norm_at, Scale.exp2_neg_int]
  rfl

/-- The projection's columns, for all tokens. -/
abbrev projAll : FVec Ideal S32768x896 .f32 :=
  k0_pay12 (k0_pay4 x g) (k0_pay6 x g) (k0_pay7 x g) (k0_pay8 (F := Ideal)) w s

/-- The projection, in terms of the codes and the scale. -/
theorem proj_entry (n : FVec Ideal S32768x5120 .f32) (a : FVec Ideal S32768x1 .f32) (b : IVec S32768x1 1) (d : FVec Ideal S32768x1 .f32)
    (r : Fin 32768) (j : Fin 896) : k0_pay12 n a b d w s (ix2 r j)
      = (∑ k : Fin 5120, k0_pay11 n a b d (ix2 r k) * w (ix2 k j)) * k0_pay10 a b d (ix2 r 0) * s (ix2 0 j) := by
  pointwise [k0_pay12]

theorem proj_at (r : Fin 32768) (j : Fin 896) : projAll x g w s (ix2 r j)
    = Row.proj (row x r) (gain g) (fun k => w (ix2 k j)) (s (ix2 0 j)) := by
  unfold projAll
  rw [proj_entry, scale_at]
  simp only [code_at]
  rfl

/-- Head `h` of the projection of token `r`. -/
abbrev headAt (r : Fin 32768) (h : Fin 7) : Fin 128 → EReal :=
  Row.head (row x r) (gain g) (fun k j => w (ix2 k j)) (fun j => s (ix2 0 j)) h

theorem head_at (r : Fin 32768) (j : Fin 896) (h : Fin 7) (c : Fin 128) (e : (j : ℕ) = 128 * h + c) :
    projAll x g w s (ix2 r j) = headAt x g w s r h c := by
  obtain rfl : j = Row.lane h c := Fin.ext e
  rw [proj_at]
  rfl

/-- The 64 frequencies. -/
abbrev freqs : Fin 64 → EReal := fun c => F (ix2 0 c)

theorem cos_at (r : Fin 32768) (c : Fin 64) : k0_pay17 p F (ix2 r c) = Ideal.cos (Row.angle (p (ix2 r 0)) (freqs F c)) := by
  pointwise [k0_pay17, k0_pay16]
  rfl

theorem sin_at (r : Fin 32768) (c : Fin 64) : k0_pay18 p F (ix2 r c) = Ideal.sin (Row.angle (p (ix2 r 0)) (freqs F c)) := by
  pointwise [k0_pay18, k0_pay16]
  rfl

end Cert.ReferenceIdeal.Block

end
-- ==== Proof.ReferenceHeads.lean ====
/- The heads that the reference stores: queries and keys turned by the token's position, values as projected. -/
module

public import proofs.«01_k».proof.Proof.ReferenceBlock

@[expose] public section

set_option maxRecDepth 16384

noncomputable section

open Idealize.ShloMosaic Idealize.ShloMosaic.TcCoe Idealize.SL.Sem

namespace Cert.ReferenceIdeal.Block

open Cert.ReferenceIdeal Cert.ReferenceIdeal.Gen

variable (x : Vec Ideal S32768x5120 .bf16) (g : Vec Ideal S1x5120 .f32) (w : Vec Ideal S5120x896 .fp8e4m3)
  (s : Vec Ideal S1x896 .f32) (p : Vec Ideal S32768x1 .i32) (F : Vec Ideal S1x64 .f32)

theorem v_at (r : Fin 32768) (c : Fin 128) :
    k0_pay3 (k0_pay15 (k0_pay4 x g) (k0_pay6 x g) (k0_pay7 x g) (k0_pay8 (F := Ideal)) w s) (ix2 r c) = headAt x g w s r 6 c := by
  pointwise [k0_pay3, k0_pay15]
  exact head_at x g w s r _ 6 c rfl

/-- The keys, in terms of the projection and the angle's cosine and sine. -/
theorem k_entry (a : FVec Ideal S32768x128 .f32) (u v : FVec Ideal S32768x64 .f32) (r : Fin 32768) (c : Fin 128) :
    k0_pay2 a u v (ix2 r c) = if h : (c : ℕ) < 64 then a (ix2 r c) * u (ix2 r ⟨c, h⟩) - a (ix2 r ⟨c + 64, by omega⟩) * v (ix2 r ⟨c, h⟩)
      else a (ix2 r c) * u (ix2 r ⟨c - 64, by omega⟩) + a (ix2 r ⟨c - 64, by omega⟩) * v (ix2 r ⟨c - 64, by omega⟩) := by
  pointwise [k0_pay2]
  by_cases hc : (c : ℕ) < 64
  · rw [dif_pos hc, dif_pos hc]
    have e : (⟨64 + (c : ℕ), by omega⟩ : Fin 128) = ⟨c + 64, by omega⟩ := Fin.ext (Nat.add_comm _ _)
    rw [e]
  · rw [dif_neg hc, dif_neg hc]
    have e : (⟨64 + ((c : ℕ) - 64), by omega⟩ : Fin 128) = c := Fin.ext (by simp only []; omega)
    rw [e]

theorem k_at (r : Fin 32768) (c : Fin 128) :
    k0_pay2 (k0_pay14 (k0_pay4 x g) (k0_pay6 x g) (k0_pay7 x g) (k0_pay8 (F := Ideal)) w s) (k0_pay17 p F) (k0_pay18 p F) (ix2 r c)
      = Row.rope (headAt x g w s r 5) (p (ix2 r 0)) (freqs F) c := by
  have e : ∀ c : Fin 128, k0_pay14 (k0_pay4 x g) (k0_pay6 x g) (k0_pay7 x g) (k0_pay8 (F := Ideal)) w s (ix2 r c) = headAt x g w s r 5 c := by
    intro c
    pointwise [k0_pay14]
    exact head_at x g w s r _ 5 c rfl
  rw [k_entry, Row.rope]
  simp only [e, cos_at, sin_at]

/-- The queries, in terms of the projection and the angle's cosine and sine. -/
theorem q_entry (n : FVec Ideal S32768x5120 .f32) (a : FVec Ideal S32768x1 .f32) (b : IVec S32768x1 1) (d : FVec Ideal S32768x1 .f32)
    (r : Fin 32768) (h : Fin 5) (c : Fin 128) :
    k0_pay1 (k0_pay19 p F) (k0_pay20 p F) (k0_pay21 n a b d w s) (k0_pay22 n a b d w s) (k0_pay23 n a b d w s p F) (ix3 r h c)
      = if hc : (c : ℕ) < 64 then
          k0_pay12 n a b d w s (ix2 r ⟨128 * h + c, by omega⟩) * k0_pay17 p F (ix2 r ⟨c, hc⟩)
            - k0_pay12 n a b d w s (ix2 r ⟨128 * h + (c + 64), by omega⟩) * k0_pay18 p F (ix2 r ⟨c, hc⟩)
        else
          k0_pay12 n a b d w s (ix2 r ⟨128 * h + c, by omega⟩) * k0_pay17 p F (ix2 r ⟨c - 64, by omega⟩)
            + k0_pay12 n a b d w s (ix2 r ⟨128 * h + (c - 64), by omega⟩) * k0_pay18 p F (ix2 r ⟨c - 64, by omega⟩) := by
  pointwise [k0_pay1, k0_pay19, k0_pay20, k0_pay21, k0_pay22, k0_pay23, k0_pay13]
  have e : ∀ j j' : Fin 896, (j : ℕ) = j' → k0_pay12 n a b d w s (ix2 r j) = k0_pay12 n a b d w s (ix2 r j') :=
    fun j j' he => by rw [Fin.ext he]
  by_cases hc : (c : ℕ) < 64
  · rw [dif_pos hc, dif_pos hc]
    rw [e ⟨(h : ℕ) * 128 + c, by omega⟩ ⟨128 * h + c, by omega⟩ (by simp only []; omega),
      e ⟨(h : ℕ) * 128 + (64 + c), by omega⟩ ⟨128 * h + (c + 64), by omega⟩ (by simp only []; omega)]
  · rw [dif_neg hc, dif_neg hc]
    rw [e ⟨(h : ℕ) * 128 + (64 + (c - 64)), by omega⟩ ⟨128 * h + c, by omega⟩ (by simp only []; omega),
      e ⟨(h : ℕ) * 128 + (c - 64), by omega⟩ ⟨128 * h + (c - 64), by omega⟩ (by simp only []; omega)]

theorem q_at (r : Fin 32768) (h : Fin 5) (c : Fin 128) :
    k0_pay1 (k0_pay19 p F) (k0_pay20 p F) (k0_pay21 (k0_pay4 x g) (k0_pay6 x g) (k0_pay7 x g) (k0_pay8 (F := Ideal)) w s)
        (k0_pay22 (k0_pay4 x g) (k0_pay6 x g) (k0_pay7 x g) (k0_pay8 (F := Ideal)) w s)
        (k0_pay23 (k0_pay4 x g) (k0_pay6 x g) (k0_pay7 x g) (k0_pay8 (F := Ideal)) w s p F) (ix3 r h c)
      = Row.rope (headAt x g w s r (Fin.castLE (by decide) h)) (p (ix2 r 0)) (freqs F) c := by
  have e : ∀ (c : Fin 128) (j : Fin 896), (j : ℕ) = 128 * h + c →
      k0_pay12 (k0_pay4 x g) (k0_pay6 x g) (k0_pay7 x g) (k0_pay8 (F := Ideal)) w s (ix2 r j) = headAt x g w s r (Fin.castLE (by decide) h) c :=
    fun c j he => head_at x g w s r j _ c he
  rw [q_entry, Row.rope]
  by_cases hc : (c : ℕ) < 64
  · rw [dif_pos hc, dif_pos hc, e c _ rfl, e ⟨c + 64, by omega⟩ _ rfl, cos_at, sin_at]
  · rw [dif_neg hc, dif_neg hc, e c _ rfl, e ⟨c - 64, by omega⟩ _ rfl, cos_at, sin_at]

end Cert.ReferenceIdeal.Block

end
-- ==== Proof.ReferenceArray.lean ====
/- What the reference's result arrays hold: every entry is the computation of one token (`Cert.Row`) from that
   token's row and position, over the arrays that the region finds. -/
module

public import proofs.«01_k».proof.Proof.ReferenceHeads
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ReferenceIdeal.Arrays

open Cert.ReferenceIdeal Cert.ReferenceIdeal.Gen Cert.ReferenceIdeal.Block

variable (m : (ℓ : Loc nD τ sig) → Buf (Elt Ideal) ℓ)

/-- Token `R`'s row, as the region finds it. -/
def X (c : Dev nD) (R : Fin 32768) : Fin 5120 → EReal := fun k => (show FVec Ideal S32768x5120 .bf16 from V m c main_v6) (ix2 R k)
/-- The gain. -/
def G (c : Dev nD) : Fin 5120 → EReal := fun k => (show FVec Ideal S1x5120 .f32 from V m c main_v7) (ix2 0 k)
/-- The weight. -/
def W (c : Dev nD) : Fin 5120 → Fin 896 → EReal := fun k j => (show FVec Ideal S5120x896 .fp8e4m3 from V m c main_arg2) (ix2 k j)
/-- The weight's column scales. -/
def S (c : Dev nD) : Fin 896 → EReal := fun j => (show FVec Ideal S1x896 .f32 from V m c main_v8) (ix2 0 j)
/-- Token `R`'s position. -/
def P (c : Dev nD) (R : Fin 32768) : BitVec 32 := (show IVec S32768x1 32 from V m c main_v9) (ix2 R 0)

/-- The 64 rotation frequencies. -/
def F (c : Dev nD) : Fin 64 → EReal := fun j => (show FVec Ideal S1x64 .f32 from V m c main_v10) (ix2 0 j)

/-- The grid has one point, whose blocks are the whole arrays. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0]
    ∧ win0_6.index t = ![0, 0, 0] ∧ win0_7.index t = ![0, 0] ∧ win0_8.index t = ![0, 0]
    ∧ win0_9.index t = ![0, 0] ∧ win0_10.index t = ![0, 0] :=
  (by decide +kernel : ∀ t : Fin grid0.N, _)

theorem row_blk (c : Dev nD) (r : Fin 32768) : row (iblk m c 0 t0_0) r = X m c r := by
  funext k
  show (show FVec Ideal S32768x5120 .bf16 from iblk m c 0 t0_0) (ix2 r k) = (show FVec Ideal S32768x5120 .bf16 from V m c main_v6) (ix2 r k)
  blk_ext [iblk, idx t0_0]

theorem gain_blk (c : Dev nD) : gain (iblk m c 1 t0_0) = G m c := by
  funext k
  show (show FVec Ideal S1x5120 .f32 from iblk m c 1 t0_0) (ix2 0 k) = (show FVec Ideal S1x5120 .f32 from V m c main_v7) (ix2 0 k)
  blk_ext [iblk, idx t0_0]

theorem weight_blk (c : Dev nD) : (fun k j => (show FVec Ideal S5120x896 .fp8e4m3 from iblk m c 2 t0_0) (ix2 k j)) = W m c := by
  funext k j
  show (show FVec Ideal S5120x896 .fp8e4m3 from iblk m c 2 t0_0) (ix2 k j) = (show FVec Ideal S5120x896 .fp8e4m3 from V m c main_arg2) (ix2 k j)
  blk_ext [iblk, idx t0_0]

theorem scales_blk (c : Dev nD) : (fun j => (show FVec Ideal S1x896 .f32 from iblk m c 3 t0_0) (ix2 0 j)) = S m c := by
  funext j
  show (show FVec Ideal S1x896 .f32 from iblk m c 3 t0_0) (ix2 0 j) = (show FVec Ideal S1x896 .f32 from V m c main_v8) (ix2 0 j)
  blk_ext [iblk, idx t0_0]

theorem pos_blk (c : Dev nD) (r : Fin 32768) : (show IVec S32768x1 32 from iblk m c 4 t0_0) (ix2 r 0) = P m c r := by
  show (show IVec S32768x1 32 from iblk m c 4 t0_0) (ix2 r 0) = (show IVec S32768x1 32 from V m c main_v9) (ix2 r 0)
  blk_ext [iblk, idx t0_0]

theorem freq_blk (c : Dev nD) : freqs (iblk m c 5 t0_0) = F m c := by
  funext j
  show (show FVec Ideal S1x64 .f32 from iblk m c 5 t0_0) (ix2 0 j) = (show FVec Ideal S1x64 .f32 from V m c main_v10) (ix2 0 j)
  blk_ext [iblk, idx t0_0]

/-- The scales. -/
theorem scales (c : Dev nD) : (dats m 0 c).arrAt 10 cfg0.N
    = fun i : S32768x1.Idx => Row.scale (X m c (i 0)) (G m c) := by
  refine (dats m 0 c).arrAt_eq_of_after_last 10 t0_0 (by decide +kernel) _ fun y => ?_
  blk_simp
  rw [after0_10]
  unfold_out out0_10
  frame_out
  idx_vars y
  refine (scale_at _ _ y0 y1).trans ?_
  exact congrArg₂ Row.scale (row_blk m c y0) (gain_blk m c)

/-- The codes. -/
theorem codes (c : Dev nD) : (dats m 0 c).arrAt 9 cfg0.N
    = fun i : S32768x5120.Idx => Row.code (X m c (i 0)) (G m c) (i 1) := by
  refine (dats m 0 c).arrAt_eq_of_after_last 9 t0_0 (by decide +kernel) _ fun y => ?_
  blk_simp
  rw [after0_9]
  unfold_out out0_9
  frame_out
  idx_vars y
  refine (code_at _ _ y0 y1).trans ?_
  exact congrArg₂ (fun a b => Row.code a b y1) (row_blk m c y0) (gain_blk m c)

/-- Head `h` of token `R`'s projection. -/
abbrev head (c : Dev nD) (R : Fin 32768) (h : Fin 7) : Fin 128 → EReal := Row.head (X m c R) (G m c) (W m c) (S m c) h

theorem head_blk (c : Dev nD) (r : Fin 32768) (h : Fin 7) :
    headAt (iblk m c 0 t0_0) (iblk m c 1 t0_0) (iblk m c 2 t0_0) (iblk m c 3 t0_0) r h = head m c r h := by
  unfold headAt
  rw [row_blk, gain_blk]
  exact congrArg₂ (fun w s => Row.head (X m c r) (G m c) w s h) (weight_blk m c) (scales_blk m c)

/-- The values. -/
theorem values (c : Dev nD) : (dats m 0 c).arrAt 8 cfg0.N
    = fun i : S32768x128.Idx => head m c (i 0) 6 (i 1) := by
  refine (dats m 0 c).arrAt_eq_of_after_last 8 t0_0 (by decide +kernel) _ fun y => ?_
  blk_simp
  rw [after0_8]
  unfold_out out0_8
  frame_out
  idx_vars y
  refine (v_at _ _ _ _ y0 y1).trans ?_
  exact congrFun (head_blk m c y0 6) y1

/-- The three parts of a turned head. -/
theorem rope_congr {a a' : Fin 128 → EReal} {q q' : BitVec 32} {f f' : Fin 64 → EReal} (ea : a = a') (eq : q = q') (ef : f = f')
    (l : Fin 128) : Row.rope a q f l = Row.rope a' q' f' l := by
  rw [ea, eq, ef]

/-- The keys. -/
theorem keys (c : Dev nD) : (dats m 0 c).arrAt 7 cfg0.N
    = fun i : S32768x128.Idx => Row.rope (head m c (i 0) 5) (P m c (i 0)) (F m c) (i 1) := by
  refine (dats m 0 c).arrAt_eq_of_after_last 7 t0_0 (by decide +kernel) _ fun y => ?_
  blk_simp
  rw [after0_7]
  unfold_out out0_7
  frame_out
  idx_vars y
  refine (k_at _ _ _ _ _ _ y0 y1).trans ?_
  exact rope_congr (head_blk m c y0 5) (pos_blk m c y0) (freq_blk m c) y1

/-- The queries. -/
theorem queries (c : Dev nD) : (dats m 0 c).arrAt 6 cfg0.N
    = fun i : S32768x5x128.Idx => Row.rope (head m c (i 0) (Fin.castLE (by decide) (i 1 : Fin 5))) (P m c (i 0)) (F m c) (i 2) := by
  refine (dats m 0 c).arrAt_eq_of_after_last 6 t0_0 (by decide +kernel) _ fun y => ?_
  blk_simp
  rw [after0_6]
  unfold_out out0_6
  frame_out
  idx_vars y
  refine (q_at _ _ _ _ _ _ y0 y1 y2).trans ?_
  exact rope_congr (head_blk m c y0 _) (pos_blk m c y0) (freq_blk m c) y2

end Cert.ReferenceIdeal.Arrays

end
-- ==== Proof.ReferenceRun.lean ====
/- The reference's run: the arrays that its region finds, from the arguments, and its five results, from the arrays that the region
   leaves. -/
module

public import proofs.«01_k».proof.Proof.ReferenceArray

@[expose] public section

set_option maxRecDepth 16384

noncomputable section

open Idealize.ShloMosaic Idealize.ShloMosaic.TcCoe Idealize.SL.Sem
open Idealize.ShloMosaic.Pipeline (Dat)

namespace Cert.ReferenceIdeal.Arrays

open Cert.ReferenceIdeal Cert.ReferenceIdeal.Gen Cert.ReferenceIdeal.Block

variable (m : (ℓ : Loc nD τ sig) → Buf (Elt Ideal) ℓ)

/-- The activations, one row per token. -/
theorem entry_x (c : Dev nD) : V m c main_v6
    = shapeCast S32768x5120 (show FVec Ideal S4x8192x5120 .bf16 from m ((c : Thread nD τ).loc main_arg0)) shapeCasts_S4x8192x5120_S32768x5120 := by
  unfold V V0 hostOps0
  simp only [List.flatten_cons, List.flatten_nil, List.append_nil]
  after_results
  rfl

/-- The gain as one row. -/
theorem entry_g (c : Dev nD) : V m c main_v7
    = shapeCast S1x5120 (show FVec Ideal S5120 .f32 from m ((c : Thread nD τ).loc main_arg1)) shapeCasts_S5120_S1x5120 := by
  unfold V V0 hostOps0
  simp only [List.flatten_cons, List.flatten_nil, List.append_nil]
  after_results
  rfl

/-- The column scales as one row. -/
theorem entry_s (c : Dev nD) : V m c main_v8
    = shapeCast S1x896 (show FVec Ideal S896 .f32 from m ((c : Thread nD τ).loc main_arg3)) shapeCasts_S896_S1x896 := by
  unfold V V0 hostOps0
  simp only [List.flatten_cons, List.flatten_nil, List.append_nil]
  after_results
  rfl

/-- The positions, one per token. -/
theorem entry_p (c : Dev nD) : V m c main_v9
    = shapeCast S32768x1 (show IVec S4x8192 32 from m ((c : Thread nD τ).loc main_arg4)) shapeCasts_S4x8192_S32768x1 := by
  unfold V V0 hostOps0
  simp only [List.flatten_cons, List.flatten_nil, List.append_nil]
  after_results
  rfl

/-- The 64 rotation frequencies, `10000` to the power `-j / 64`. -/
def freq : FVec Ideal S64 .f32 :=
  Host.powf (broadcastInDim S64 ![] bcast_S_S64 (constant (F := Ideal) S_ .f32 0x461C4000#32))
    (mulf (Host.negf (sitofp .f32 (iotaInDim S64 32 0))) (broadcastInDim S64 ![] bcast_S_S64 (constant (F := Ideal) S_ .f32 0x3C800000#32)))

/-- The frequencies as one row. -/
theorem entry_f (c : Dev nD) : F m c = fun j => freq (ix1 j) := by
  have e : V m c main_v10 = shapeCast S1x64 freq shapeCasts_S64_S1x64 := by
    unfold V V0 hostOps0
    simp only [List.flatten_cons, List.flatten_nil, List.append_nil]
    after_results
    rfl
  unfold F
  rw [e]
  generalize freq = f
  funext j
  pointwise

/-- The queries. -/
theorem tail_q (c : Dev nD) : Pipeline.afterTail₀ cfgs (dats m) 0 (V0 m) [hostOps1] c main_v12
    = shapeCast S4x8192x5x128 (show FVec Ideal S32768x5x128 .bf16 from (dats m 0 c).arrAt 6 cfg0.N) shapeCasts_S32768x5x128_S4x8192x5x128 := by
  unfold Pipeline.afterTail₀ hostOps1
  simp only [List.flatten_cons, List.flatten_nil, List.append_nil]
  after_results
  exact congrArg (fun a : FVec Ideal S32768x5x128 .bf16 => shapeCast S4x8192x5x128 a shapeCasts_S32768x5x128_S4x8192x5x128)
    (Pipeline.withArrays_arr spec0 launch0.win.arr_inj c (V0 m c) (fun w => (dats m 0 c).arrAt w cfg0.N) 6)

/-- The keys. -/
theorem tail_k (c : Dev nD) : Pipeline.afterTail₀ cfgs (dats m) 0 (V0 m) [hostOps1] c main_v13
    = shapeCast S4x8192x1x128 (show FVec Ideal S32768x128 .bf16 from (dats m 0 c).arrAt 7 cfg0.N) shapeCasts_S32768x128_S4x8192x1x128 := by
  unfold Pipeline.afterTail₀ hostOps1
  simp only [List.flatten_cons, List.flatten_nil, List.append_nil]
  after_results
  exact congrArg (fun a : FVec Ideal S32768x128 .bf16 => shapeCast S4x8192x1x128 a shapeCasts_S32768x128_S4x8192x1x128)
    (Pipeline.withArrays_arr spec0 launch0.win.arr_inj c (V0 m c) (fun w => (dats m 0 c).arrAt w cfg0.N) 7)

/-- The values. -/
theorem tail_v (c : Dev nD) : Pipeline.afterTail₀ cfgs (dats m) 0 (V0 m) [hostOps1] c main_v14
    = shapeCast S4x8192x1x128 (show FVec Ideal S32768x128 .bf16 from (dats m 0 c).arrAt 8 cfg0.N) shapeCasts_S32768x128_S4x8192x1x128 := by
  unfold Pipeline.afterTail₀ hostOps1
  simp only [List.flatten_cons, List.flatten_nil, List.append_nil]
  after_results
  exact congrArg (fun a : FVec Ideal S32768x128 .bf16 => shapeCast S4x8192x1x128 a shapeCasts_S32768x128_S4x8192x1x128)
    (Pipeline.withArrays_arr spec0 launch0.win.arr_inj c (V0 m c) (fun w => (dats m 0 c).arrAt w cfg0.N) 8)

/-- The codes. -/
theorem tail_codes (c : Dev nD) : Pipeline.afterTail₀ cfgs (dats m) 0 (V0 m) [hostOps1] c main_v15
    = shapeCast S4x8192x5120 (show FVec Ideal S32768x5120 .fp8e4m3 from (dats m 0 c).arrAt 9 cfg0.N) shapeCasts_S32768x5120_S4x8192x5120 := by
  unfold Pipeline.afterTail₀ hostOps1
  simp only [List.flatten_cons, List.flatten_nil, List.append_nil]
  after_results
  exact congrArg (fun a : FVec Ideal S32768x5120 .fp8e4m3 => shapeCast S4x8192x5120 a shapeCasts_S32768x5120_S4x8192x5120)
    (Pipeline.withArrays_arr spec0 launch0.win.arr_inj c (V0 m c) (fun w => (dats m 0 c).arrAt w cfg0.N) 9)

/-- The scales. -/
theorem tail_scales (c : Dev nD) : Pipeline.afterTail₀ cfgs (dats m) 0 (V0 m) [hostOps1] c main_v16
    = shapeCast S4x8192x1 (show FVec Ideal S32768x1 .f32 from (dats m 0 c).arrAt 10 cfg0.N) shapeCasts_S32768x1_S4x8192x1 := by
  unfold Pipeline.afterTail₀ hostOps1
  simp only [List.flatten_cons, List.flatten_nil, List.append_nil]
  after_results
  exact congrArg (fun a : FVec Ideal S32768x1 .f32 => shapeCast S4x8192x1 a shapeCasts_S32768x1_S4x8192x1)
    (Pipeline.withArrays_arr spec0 launch0.win.arr_inj c (V0 m c) (fun w => (dats m 0 c).arrAt w cfg0.N) 10)

/-- What the program ends with: its five results, read off after the host's last operations, and its arguments as they
    were. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v12) = Pipeline.afterTail₀ cfgs (dats m) 0 (V0 m) [hostOps1] c main_v12
      ∧ r.2.mem ((c.tc : Thread nD τ).loc main_v13) = Pipeline.afterTail₀ cfgs (dats m) 0 (V0 m) [hostOps1] c main_v13
      ∧ r.2.mem ((c.tc : Thread nD τ).loc main_v14) = Pipeline.afterTail₀ cfgs (dats m) 0 (V0 m) [hostOps1] c main_v14
      ∧ r.2.mem ((c.tc : Thread nD τ).loc main_v15) = Pipeline.afterTail₀ cfgs (dats m) 0 (V0 m) [hostOps1] c main_v15
      ∧ r.2.mem ((c.tc : Thread nD τ).loc main_v16) = Pipeline.afterTail₀ cfgs (dats m) 0 (V0 m) [hostOps1] c main_v16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c).2 main_v12 (Pipeline.mem_restRefs_of main_v12 (by decide) (by decide)),
     (h c).2 main_v13 (Pipeline.mem_restRefs_of main_v13 (by decide) (by decide)),
     (h c).2 main_v14 (Pipeline.mem_restRefs_of main_v14 (by decide) (by decide)),
     (h c).2 main_v15 (Pipeline.mem_restRefs_of main_v15 (by decide) (by decide)),
     (h c).2 main_v16 (Pipeline.mem_restRefs_of main_v16 (by decide) (by decide)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).1 2).trans (((dats m 0 c).arrAt_in 2 rfl _).trans ((A_eq m c 2).trans (V_main_arg2 m c))),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩) (run_main m g)

end Cert.ReferenceIdeal.Arrays

end
-- ==== Proof.Algebraic.lean ====
/- The equation: from the same arguments the kernel and the reference find the same rows, so their five results are
   equal. -/
module

public import proofs.«01_k».proof.Defs
public import proofs.«01_k».proof.Proof.KernelRun
public import proofs.«01_k».proof.Proof.ReferenceRun

@[expose] public section

set_option maxRecDepth 16384

noncomputable section

open Idealize.ShloMosaic Idealize.ShloMosaic.TcCoe Idealize.SL.Sem

namespace Cert.Algebraic

open Idealize.ShloMosaic.Pipeline (afterTail₀)

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- The two programs' arguments are equal, on device `c`. -/
def Agree (c : Dev KernelIdeal.nD) : Prop :=
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)
  ∧ m' ((c.tc : Thread ReferenceIdeal.nD ReferenceIdeal.τ).loc ReferenceIdeal.main_arg3) = m ((c.tc : Thread KernelIdeal.nD KernelIdeal.τ).loc KernelIdeal.main_arg3)
  ∧ m' ((c.tc : Thread ReferenceIdeal.nD ReferenceIdeal.τ).loc ReferenceIdeal.main_arg4) = m ((c.tc : Thread KernelIdeal.nD KernelIdeal.τ).loc KernelIdeal.main_arg4)

variable (c : Dev KernelIdeal.nD) (h : Agree m m' c)
include h

/-- The rows. -/
theorem rows_eq : ReferenceIdeal.Arrays.X m' c = KernelIdeal.Arrays.X m c := by
  unfold ReferenceIdeal.Arrays.X KernelIdeal.Arrays.X
  rw [ReferenceIdeal.Arrays.entry_x, KernelIdeal.Arrays.entry_x, h.1]

/-- The gains. -/
theorem gain_eq : ReferenceIdeal.Arrays.G m' c = KernelIdeal.Arrays.G m c := by
  unfold ReferenceIdeal.Arrays.G KernelIdeal.Arrays.G
  rw [ReferenceIdeal.Arrays.entry_g, KernelIdeal.Arrays.entry_g, h.2.1]

/-- The weight. -/
theorem weight_eq : ReferenceIdeal.Arrays.W m' c = KernelIdeal.Arrays.W m c := by
  unfold ReferenceIdeal.Arrays.W KernelIdeal.Arrays.W
  rw [ReferenceIdeal.Gen.V_main_arg2, KernelIdeal.Gen.V_main_arg2, h.2.2.1]

/-- The weight's scales. -/
theorem scales_eq : ReferenceIdeal.Arrays.S m' c = KernelIdeal.Arrays.S m c := by
  unfold ReferenceIdeal.Arrays.S KernelIdeal.Arrays.S
  rw [ReferenceIdeal.Arrays.entry_s, KernelIdeal.Arrays.entry_s, h.2.2.2.1]

/-- The positions. -/
theorem pos_eq : ReferenceIdeal.Arrays.P m' c = KernelIdeal.Arrays.P m c := by
  unfold ReferenceIdeal.Arrays.P KernelIdeal.Arrays.P
  rw [ReferenceIdeal.Arrays.entry_p, KernelIdeal.Arrays.entry_p, h.2.2.2.2]

omit h in
/-- The two programs compute the frequencies alike. -/
theorem freq_eq : ReferenceIdeal.Arrays.freq = KernelIdeal.Arrays.freq := rfl

/-- The heads before rotation. -/
theorem head_eq (R : Fin 32768) (a : Fin 7) : ReferenceIdeal.Arrays.head m' c R a = KernelIdeal.Arrays.head m c R a := by
  unfold ReferenceIdeal.Arrays.head KernelIdeal.Arrays.head
  rw [rows_eq m m' c h, gain_eq m m' c h, weight_eq m m' c h, scales_eq m m' c h]

/-- The frequencies, lane by lane. -/
abbrev f : Fin 64 → EReal := fun j => KernelIdeal.Arrays.freq (ix1 j)

/-- The rotated heads. -/
theorem rope_eq (R : Fin 32768) (a : Fin 7) : Row.rope (ReferenceIdeal.Arrays.head m' c R a) (ReferenceIdeal.Arrays.P m' c R) (ReferenceIdeal.Arrays.F m' c)
    = Row.rope (KernelIdeal.Arrays.head m c R a) (KernelIdeal.Arrays.P m c R) f := by
  rw [head_eq m m' c h, pos_eq m m' c h, ReferenceIdeal.Arrays.entry_f, freq_eq]

/-- The scales. -/
theorem scales_result : afterTail₀ ReferenceIdeal.cfgs (ReferenceIdeal.Gen.dats m') 0 (ReferenceIdeal.Gen.V0 m') [ReferenceIdeal.Gen.hostOps1] c ReferenceIdeal.main_v16
    = afterTail₀ KernelIdeal.cfgs (KernelIdeal.Gen.dats m) 0 (KernelIdeal.Gen.V0 m) [KernelIdeal.Gen.hostOps1] c KernelIdeal.main_v17 :=
  (ReferenceIdeal.Arrays.tail_scales m' c).trans
    ((congrArg (fun a : FVec Ideal ReferenceIdeal.S32768x1 .f32 => shapeCast ReferenceIdeal.S4x8192x1 a ReferenceIdeal.Gen.shapeCasts_S32768x1_S4x8192x1)
      ((ReferenceIdeal.Arrays.scales m' c).trans (funext fun i => congrArg₂ (fun X G => Row.scale X G) (congrFun (rows_eq m m' c h) (i 0)) (gain_eq m m' c h)))).trans
    ((KernelIdeal.Arrays.tail_scales m c).trans (congrArg (fun a : FVec Ideal KernelIdeal.S32768x1 .f32 => shapeCast KernelIdeal.S4x8192x1 a KernelIdeal.Gen.shapeCasts_S32768x1_S4x8192x1)
      (KernelIdeal.Arrays.scales m c))).symm)

/-- The codes. -/
theorem codes_result : afterTail₀ ReferenceIdeal.cfgs (ReferenceIdeal.Gen.dats m') 0 (ReferenceIdeal.Gen.V0 m') [ReferenceIdeal.Gen.hostOps1] c ReferenceIdeal.main_v15
    = afterTail₀ KernelIdeal.cfgs (KernelIdeal.Gen.dats m) 0 (KernelIdeal.Gen.V0 m) [KernelIdeal.Gen.hostOps1] c KernelIdeal.main_v16 :=
  (ReferenceIdeal.Arrays.tail_codes m' c).trans
    ((congrArg (fun a : FVec Ideal ReferenceIdeal.S32768x5120 .fp8e4m3 => shapeCast ReferenceIdeal.S4x8192x5120 a ReferenceIdeal.Gen.shapeCasts_S32768x5120_S4x8192x5120)
      ((ReferenceIdeal.Arrays.codes m' c).trans (funext fun i => congrArg₂ (fun X G => Row.code X G (i 1)) (congrFun (rows_eq m m' c h) (i 0)) (gain_eq m m' c h)))).trans
    ((KernelIdeal.Arrays.tail_codes m c).trans (congrArg (fun a : FVec Ideal KernelIdeal.S32768x5120 .fp8e4m3 => shapeCast KernelIdeal.S4x8192x5120 a KernelIdeal.Gen.shapeCasts_S32768x5120_S4x8192x5120)
      (KernelIdeal.Arrays.codes m c))).symm)

/-- The values. -/
theorem values_result : afterTail₀ ReferenceIdeal.cfgs (ReferenceIdeal.Gen.dats m') 0 (ReferenceIdeal.Gen.V0 m') [ReferenceIdeal.Gen.hostOps1] c ReferenceIdeal.main_v14
    = afterTail₀ KernelIdeal.cfgs (KernelIdeal.Gen.dats m) 0 (KernelIdeal.Gen.V0 m) [KernelIdeal.Gen.hostOps1] c KernelIdeal.main_v15 :=
  (ReferenceIdeal.Arrays.tail_v m' c).trans
    ((congrArg (fun a : FVec Ideal ReferenceIdeal.S32768x128 .bf16 => shapeCast ReferenceIdeal.S4x8192x1x128 a ReferenceIdeal.Gen.shapeCasts_S32768x128_S4x8192x1x128)
      ((ReferenceIdeal.Arrays.values m' c).trans (funext fun i => congrFun (head_eq m m' c h (i 0) 6) (i 1)))).trans
    ((KernelIdeal.Arrays.tail_v m c).trans (congrArg (fun a : FVec Ideal KernelIdeal.S32768x128 .bf16 => shapeCast KernelIdeal.S4x8192x1x128 a KernelIdeal.Gen.shapeCasts_S32768x128_S4x8192x1x128)
      (KernelIdeal.Arrays.values m c))).symm)

/-- The keys. -/
theorem keys_result : afterTail₀ ReferenceIdeal.cfgs (ReferenceIdeal.Gen.dats m') 0 (ReferenceIdeal.Gen.V0 m') [ReferenceIdeal.Gen.hostOps1] c ReferenceIdeal.main_v13
    = afterTail₀ KernelIdeal.cfgs (KernelIdeal.Gen.dats m) 0 (KernelIdeal.Gen.V0 m) [KernelIdeal.Gen.hostOps1] c KernelIdeal.main_v14 :=
  (ReferenceIdeal.Arrays.tail_k m' c).trans
    ((congrArg (fun a : FVec Ideal ReferenceIdeal.S32768x128 .bf16 => shapeCast ReferenceIdeal.S4x8192x1x128 a ReferenceIdeal.Gen.shapeCasts_S32768x128_S4x8192x1x128)
      ((ReferenceIdeal.Arrays.keys m' c).trans (funext fun i => congrFun (rope_eq m m' c h (i 0) 5) (i 1)))).trans
    ((KernelIdeal.Arrays.tail_k m c).trans (congrArg (fun a : FVec Ideal KernelIdeal.S32768x128 .bf16 => shapeCast KernelIdeal.S4x8192x1x128 a KernelIdeal.Gen.shapeCasts_S32768x128_S4x8192x1x128)
      (KernelIdeal.Arrays.keys m f c (KernelIdeal.Arrays.entry_f m c)))).symm)

omit h in
/-- Moving the heads behind the tokens and splitting the tokens give the same array, of one function of token, head and
    lane. -/
theorem queries_layout (r : Fin 32768 → Fin 5 → Fin 128 → EReal) :
    shapeCast ReferenceIdeal.S4x8192x5x128 (show FVec Ideal ReferenceIdeal.S32768x5x128 .bf16 from fun i => r (i 0) (i 1) (i 2))
        ReferenceIdeal.Gen.shapeCasts_S32768x5x128_S4x8192x5x128
      = transpose KernelIdeal.S4x8192x5x128 [0, 2, 1, 3]
          (show FVec Ideal KernelIdeal.S4x5x8192x128 .bf16 from fun i => r (KernelIdeal.Arrays.flat (i 0) (i 2)) (i 1) (i 3))
          KernelIdeal.Gen.transposes_S4x5x8192x128_S4x8192x5x128_0_2_1_3 := by
  funext i
  idx_vars i
  pointwise
  rfl

/-- The queries. -/
theorem queries_result : afterTail₀ ReferenceIdeal.cfgs (ReferenceIdeal.Gen.dats m') 0 (ReferenceIdeal.Gen.V0 m') [ReferenceIdeal.Gen.hostOps1] c ReferenceIdeal.main_v12
    = afterTail₀ KernelIdeal.cfgs (KernelIdeal.Gen.dats m) 0 (KernelIdeal.Gen.V0 m) [KernelIdeal.Gen.hostOps1] c KernelIdeal.main_v13 :=
  (ReferenceIdeal.Arrays.tail_q m' c).trans
    ((congrArg (fun a : FVec Ideal ReferenceIdeal.S32768x5x128 .bf16 => shapeCast ReferenceIdeal.S4x8192x5x128 a ReferenceIdeal.Gen.shapeCasts_S32768x5x128_S4x8192x5x128)
      ((ReferenceIdeal.Arrays.queries m' c).trans (funext fun i => congrFun (rope_eq m m' c h (i 0) (Fin.castLE (by decide) (i 1 : Fin 5))) (i 2)))).trans
    ((queries_layout fun R a l => Row.rope (KernelIdeal.Arrays.head m c R (Fin.castLE (by decide) a)) (KernelIdeal.Arrays.P m c R) f l).trans
    ((KernelIdeal.Arrays.tail_q m c).trans (congrArg (fun a : FVec Ideal KernelIdeal.S4x5x8192x128 .bf16 => transpose KernelIdeal.S4x8192x5x128 [0, 2, 1, 3] a KernelIdeal.Gen.transposes_S4x5x8192x128_S4x8192x5x128_0_2_1_3)
      (KernelIdeal.Arrays.queries m f c (KernelIdeal.Arrays.entry_f m c)))).symm))

omit c h
/-- The algebraic claim. -/
theorem holds : algebraic_KernelIdeal_ReferenceIdeal :=
  fun m g m' g' _ hargs =>
    ⟨fun c => afterTail₀ KernelIdeal.cfgs (KernelIdeal.Gen.dats m) 0 (KernelIdeal.Gen.V0 m) [KernelIdeal.Gen.hostOps1] c KernelIdeal.main_v13,
     fun c => afterTail₀ KernelIdeal.cfgs (KernelIdeal.Gen.dats m) 0 (KernelIdeal.Gen.V0 m) [KernelIdeal.Gen.hostOps1] c KernelIdeal.main_v14,
     fun c => afterTail₀ KernelIdeal.cfgs (KernelIdeal.Gen.dats m) 0 (KernelIdeal.Gen.V0 m) [KernelIdeal.Gen.hostOps1] c KernelIdeal.main_v15,
     fun c => afterTail₀ KernelIdeal.cfgs (KernelIdeal.Gen.dats m) 0 (KernelIdeal.Gen.V0 m) [KernelIdeal.Gen.hostOps1] c KernelIdeal.main_v16,
     fun c => afterTail₀ KernelIdeal.cfgs (KernelIdeal.Gen.dats m) 0 (KernelIdeal.Gen.V0 m) [KernelIdeal.Gen.hostOps1] c KernelIdeal.main_v17,
     KernelIdeal.Arrays.run m g,
     (θ_run (ReferenceIdeal.defs (F := Ideal)) _ _).mono (fun _ r c =>
       ⟨(r c).1.trans (queries_result m m' c (hargs c)), (r c).2.1.trans (keys_result m m' c (hargs c)),
        (r c).2.2.1.trans (values_result m m' c (hargs c)), (r c).2.2.2.1.trans (codes_result m m' c (hargs c)),
        (r c).2.2.2.2.1.trans (scales_result m m' c (hargs c)), (r c).2.2.2.2.2⟩) (ReferenceIdeal.Arrays.run m' g')⟩

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ,
  IdealRules.named_const.statement Cert.KernelIdeal.κ "inv_d_model" .f32 0x394CCCCD#32 ((1 / 5120 : ℝ) : EReal) rfl,
  Cert.Algebraic.holds⟩

end Cert.Proof

end
